-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1_0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1_0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v24) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1))

def Claim : Prop :=
  ∃ (hKernel : Cert.Kernel.Facts) (hReference : Cert.Reference.Facts) (hTail : Cert.Tail.Facts) (hTailIdeal : Cert.TailIdeal.Facts) (hTailReferenceIdeal : Cert.TailReferenceIdeal.Facts),
    quiescent_Kernel (hKernel := hKernel)
    ∧ quiescent_Reference (hReference := hReference)
    ∧ quiescent_Tail (hTail := hTail)
    ∧ quiescent_TailIdeal (hTailIdeal := hTailIdeal)
    ∧ quiescent_TailReferenceIdeal (hTailReferenceIdeal := hTailReferenceIdeal)
    ∧ bitexact_Kernel_Reference (hKernel := hKernel) (hReference := hReference)
    ∧ preserves_Tail_TailIdeal
    ∧ algebraic_TailIdeal_TailReferenceIdeal (hTailIdeal := hTailIdeal) (hTailReferenceIdeal := hTailReferenceIdeal)
-- ==== Kernel.lean ====
abbrev S65536x256 : Shape := ⟨2, ![65536, 256]⟩
abbrev S256x65536 : Shape := ⟨2, ![256, 65536]⟩
abbrev S65536 : Shape := ⟨1, ![65536]⟩
abbrev S2048 : Shape := ⟨1, ![2048]⟩
abbrev S1024 : Shape := ⟨1, ![1024]⟩
abbrev S4096 : Shape := ⟨1, ![4096]⟩
abbrev S_ : Shape := ⟨0, ![]⟩
abbrev S16 : Shape := ⟨1, ![16]⟩
abbrev S1x4096 : Shape := ⟨2, ![1, 4096]⟩
abbrev S1x65536 : Shape := ⟨2, ![1, 65536]⟩

abbrev nBuf : Table → Nat
  | .hbm => 4
  | .local .scVector .vmem => 8
  | _ => 0

abbrev bufTy : (tb : Table) → Fin (nBuf tb) → BufTy
  | .hbm, ⟨0, _⟩ => ⟨S65536x256, .f32⟩
  | .hbm, ⟨1, _⟩ => ⟨S256x65536, .f32⟩
  | .hbm, ⟨2, _⟩ => ⟨S256x65536, .i32⟩
  | .hbm, ⟨3, _⟩ => ⟨S256x65536, .i32⟩
  | .local .scVector .vmem, ⟨0, _⟩ => ⟨S65536, .i32⟩
  | .local .scVector .vmem, ⟨1, _⟩ => ⟨S2048, .i32⟩
  | .local .scVector .vmem, ⟨2, _⟩ => ⟨S2048, .i32⟩
  | .local .scVector .vmem, ⟨3, _⟩ => ⟨S1024, .i32⟩
  | .local .scVector .vmem, ⟨4, _⟩ => ⟨S4096, .f32⟩
  | .local .scVector .vmem, ⟨5, _⟩ => ⟨S4096, .f32⟩
  | .local .scVector .vmem, ⟨6, _⟩ => ⟨S4096, .i32⟩
  | .local .scVector .vmem, ⟨7, _⟩ => ⟨S4096, .i32⟩
  | _, _ => ⟨S65536x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v3 : BitVec 32 := Scalar.addi c0_i32_0 c8_i32
  let c1_i32_1 : BitVec 32 := 1#32
  ⟨c0_i32_0, v3, c1_i32_1⟩
@[reducible] def k0_t2_loop : Scf.Loop 32 :=
  let c0_i32_5 : BitVec 32 := 0#32
  let c128_i32 : BitVec 32 := 128#32
  let v7 : BitVec 32 := Scalar.addi c0_i32_5 c128_i32
  let c1_i32_6 : BitVec 32 := 1#32
  ⟨c0_i32_5, v7, c1_i32_6⟩
def k0_off1 (k0_t2 : Fin k0_t2_loop.trips) : Fin 1 → Nat :=
  let c0_i32_5 : BitVec 32 := 0#32
  let c1_i32_6 : BitVec 32 := 1#32
  let arg17 : BitVec 32 := Scf.iv c0_i32_5 c1_i32_6 k0_t2
  let c16_i32_63 : BitVec 32 := 16#32
  let v40 : BitVec 32 := Scalar.muli arg17 c16_i32_63
  let v41 : Index := Scalar.indexCast v40
  ![v41.toNat]
@[reducible] def k0_t3_loop : Scf.Loop 32 :=
  let c0_i32_9 : BitVec 32 := 0#32
  let c128_i32_10 : BitVec 32 := 128#32
  let v9 : BitVec 32 := Scalar.addi c0_i32_9 c128_i32_10
  let c1_i32_11 : BitVec 32 := 1#32
  ⟨c0_i32_9, v9, c1_i32_11⟩
def k0_off2 (k0_t3 : Fin k0_t3_loop.trips) : Fin 1 → Nat :=
  let c0_i32_9 : BitVec 32 := 0#32
  let c1_i32_11 : BitVec 32 := 1#32
  let arg17 : BitVec 32 := Scf.iv c0_i32_9 c1_i32_11 k0_t3
  let c16_i32_63 : BitVec 32 := 16#32
  let v40 : BitVec 32 := Scalar.muli arg17 c16_i32_63
  let v41 : Index := Scalar.indexCast v40
  ![v41.toNat]
@[reducible] def k0_t4_loop : Scf.Loop 32 :=
  let c0_i32_14 : BitVec 32 := 0#32
  let c64_i32 : BitVec 32 := 64#32
  let v11 : BitVec 32 := Scalar.addi c0_i32_14 c64_i32
  let c1_i32_15 : BitVec 32 := 1#32
  ⟨c0_i32_14, v11, c1_i32_15⟩
def k0_off3 (k0_t4 : Fin k0_t4_loop.trips) : Fin 1 → Nat :=
  let c0_i32_14 : BitVec 32 := 0#32
  let c1_i32_15 : BitVec 32 := 1#32
  let arg17 : BitVec 32 := Scf.iv c0_i32_14 c1_i32_15 k0_t4
  let c16_i32_63 : BitVec 32 := 16#32
  let v40 : BitVec 32 := Scalar.muli arg17 c16_i32_63
  let v41 : Index := Scalar.indexCast v40
  ![v41.toNat]
def k0_off4 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_17 : BitVec 32 := 0#32
  ![v6.toNat, 0]
@[reducible] def k0_t5_loop : Scf.Loop 32 :=
  let c0_i32_20 : BitVec 32 := 0#32
  let c8_i32_21 : BitVec 32 := 8#32
  let v17 : BitVec 32 := Scalar.addi c0_i32_20 c8_i32_21
  let c1_i32_22 : BitVec 32 := 1#32
  ⟨c0_i32_20, v17, c1_i32_22⟩
def k0_cond1 (k0_t5 : Fin k0_t5_loop.trips) : BitVec 1 :=
  let c0_i32_20 : BitVec 32 := 0#32
  let c1_i32_22 : BitVec 32 := 1#32
  let arg17 : BitVec 32 := Scf.iv c0_i32_20 c1_i32_22 k0_t5
  let c2_i32 : BitVec 32 := 2#32
  let v39 : BitVec 32 := Scalar.muli arg17 c2_i32
  let c0_i32_62 : BitVec 32 := 0#32
  let v40 : BitVec 32 := Scalar.addi v39 c0_i32_62
  let c1_i32_63 : BitVec 32 := 1#32
  let v41 : BitVec 32 := Scalar.addi v40 c1_i32_63
  let c16_i32_64 : BitVec 32 := 16#32
  let v42 : BitVec 1 := Scalar.cmpi .slt v41 c16_i32_64
  let v43 : BitVec 32 := Scalar.extui v42
  let c0_i32_65 : BitVec 32 := 0#32
  let v44 : BitVec 1 := Scalar.cmpi .ne v43 c0_i32_65
  v44

def k0_off5 (i : grid0.Coords) (k0_t1 : Fin k0_t1_loop.trips) (k0_t5 : Fin k0_t5_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_20 : BitVec 32 := 0#32
  let c1_i32_22 : BitVec 32 := 1#32
  let arg17 : BitVec 32 := Scf.iv c0_i32_20 c1_i32_22 k0_t5
  let c2_i32 : BitVec 32 := 2#32
  let v39 : BitVec 32 := Scalar.muli arg17 c2_i32
  let c0_i32_62 : BitVec 32 := 0#32
  let v40 : BitVec 32 := Scalar.addi v39 c0_i32_62
  let c1_i32_79 : BitVec 32 := 1#32
  let v63 : BitVec 32 := Scalar.addi v40 c1_i32_79
  let c4096_i32_80 : BitVec 32 := 4096#32
  let v64 : BitVec 32 := Scalar.muli v63 c4096_i32_80
  ![v6.toNat, v64.toNat]
def k0_off6 (i : grid0.Coords) (k0_t1 : Fin k0_t1_loop.trips) (k0_t5 : Fin k0_t5_loop.trips) (c0_i32_62 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_20 : BitVec 32 := 0#32
  let c1_i32_22 : BitVec 32 := 1#32
  let arg17 : BitVec 32 := Scf.iv c0_i32_20 c1_i32_22 k0_t5
  let c2_i32 : BitVec 32 := 2#32
  let v39 : BitVec 32 := Scalar.muli arg17 c2_i32
  let v40 : BitVec 32 := Scalar.addi v39 c0_i32_62
  let c4096_i32 : BitVec 32 := 4096#32
  let v45 : BitVec 32 := Scalar.muli v40 c4096_i32
  ![v6.toNat, v45.toNat]
@[reducible] def k0_t6_loop : Scf.Loop 32 :=
  let c0_i32_66 : BitVec 32 := 0#32
  let c256_i32 : BitVec 32 := 256#32
  let v50 : BitVec 32 := Scalar.addi c0_i32_66 c256_i32
  let c1_i32_67 : BitVec 32 := 1#32
  ⟨c0_i32_66, v50, c1_i32_67⟩
def k0_off7 (k0_t6 : Fin k0_t6_loop.trips) : Fin 1 → Nat :=
  let c0_i32_80 : BitVec 32 := 0#32
  let c0_i32_66 : BitVec 32 := 0#32
  let c1_i32_67 : BitVec 32 := 1#32
  let arg18 : BitVec 32 := Scf.iv c0_i32_66 c1_i32_67 k0_t6
  let c1_i32_79 : BitVec 32 := 1#32
  let v63 : BitVec 32 := Scalar.muli arg18 c1_i32_79
  let v64 : BitVec 32 := Scalar.addi c0_i32_80 v63
  let c16_i32_81 : BitVec 32 := 16#32
  let v65 : BitVec 32 := Scalar.muli v64 c16_i32_81
  let v66 : Index := Scalar.indexCast v65
  ![v66.toNat]

def k0_chk1 (v75 : IVec S16 32) : Prop :=
  (∀ a x, ((![v75] : Fin 1 → IVec S16 32) a x).toNat < S2048.size a)
theorem k0_idx1_inb : ∀ (v75 : IVec S16 32) (k0_hw1 : k0_chk1 v75), ∀ a x, ((![v75] : Fin 1 → IVec S16 32) a x).toNat < S2048.size a := fun v75 k0_hw1 => k0_hw1

def k0_chk2 (v79 : IVec S16 32) : Prop :=
  (∀ a x, ((![v79] : Fin 1 → IVec S16 32) a x).toNat < S2048.size a)
theorem k0_idx2_inb : ∀ (v79 : IVec S16 32) (k0_hw2 : k0_chk2 v79), ∀ a x, ((![v79] : Fin 1 → IVec S16 32) a x).toNat < S2048.size a := fun v79 k0_hw2 => k0_hw2

def k0_chk3 (v83 : IVec S16 32) : Prop :=
  (∀ a x, ((![v83] : Fin 1 → IVec S16 32) a x).toNat < S1024.size a)
theorem k0_idx3_inb : ∀ (v83 : IVec S16 32) (k0_hw3 : k0_chk3 v83), ∀ a x, ((![v83] : Fin 1 → IVec S16 32) a x).toNat < S1024.size a := fun v83 k0_hw3 => k0_hw3
def k0_cond2 (k0_t5 : Fin k0_t5_loop.trips) : BitVec 1 :=
  let c0_i32_20 : BitVec 32 := 0#32
  let c1_i32_22 : BitVec 32 := 1#32
  let arg17 : BitVec 32 := Scf.iv c0_i32_20 c1_i32_22 k0_t5
  let c2_i32_69 : BitVec 32 := 2#32
  let v51 : BitVec 32 := Scalar.muli arg17 c2_i32_69
  let c1_i32_70 : BitVec 32 := 1#32
  let v52 : BitVec 32 := Scalar.addi v51 c1_i32_70
  let c1_i32_71 : BitVec 32 := 1#32
  let v53 : BitVec 32 := Scalar.addi v52 c1_i32_71
  let c16_i32_72 : BitVec 32 := 16#32
  let v54 : BitVec 1 := Scalar.cmpi .slt v53 c16_i32_72
  let v55 : BitVec 32 := Scalar.extui v54
  let c0_i32_73 : BitVec 32 := 0#32
  let v56 : BitVec 1 := Scalar.cmpi .ne v55 c0_i32_73
  v56

def k0_off8 (i : grid0.Coords) (k0_t1 : Fin k0_t1_loop.trips) (k0_t5 : Fin k0_t5_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_20 : BitVec 32 := 0#32
  let c1_i32_22 : BitVec 32 := 1#32
  let arg17 : BitVec 32 := Scf.iv c0_i32_20 c1_i32_22 k0_t5
  let c2_i32_69 : BitVec 32 := 2#32
  let v51 : BitVec 32 := Scalar.muli arg17 c2_i32_69
  let c1_i32_70 : BitVec 32 := 1#32
  let v52 : BitVec 32 := Scalar.addi v51 c1_i32_70
  let c1_i32_79 : BitVec 32 := 1#32
  let v63 : BitVec 32 := Scalar.addi v52 c1_i32_79
  let c4096_i32_80 : BitVec 32 := 4096#32
  let v64 : BitVec 32 := Scalar.muli v63 c4096_i32_80
  ![v6.toNat, v64.toNat]
@[reducible] def k0_t7_loop : Scf.Loop 32 :=
  let c0_i32_75 : BitVec 32 := 0#32
  let c256_i32_76 : BitVec 32 := 256#32
  let v62 : BitVec 32 := Scalar.addi c0_i32_75 c256_i32_76
  let c1_i32_77 : BitVec 32 := 1#32
  ⟨c0_i32_75, v62, c1_i32_77⟩
def k0_off9 (k0_t7 : Fin k0_t7_loop.trips) : Fin 1 → Nat :=
  let c0_i32_80 : BitVec 32 := 0#32
  let c0_i32_75 : BitVec 32 := 0#32
  let c1_i32_77 : BitVec 32 := 1#32
  let arg18 : BitVec 32 := Scf.iv c0_i32_75 c1_i32_77 k0_t7
  let c1_i32_79 : BitVec 32 := 1#32
  let v63 : BitVec 32 := Scalar.muli arg18 c1_i32_79
  let v64 : BitVec 32 := Scalar.addi c0_i32_80 v63
  let c16_i32_81 : BitVec 32 := 16#32
  let v65 : BitVec 32 := Scalar.muli v64 c16_i32_81
  let v66 : Index := Scalar.indexCast v65
  ![v66.toNat]

def k0_chk4 (v75 : IVec S16 32) : Prop :=
  (∀ a x, ((![v75] : Fin 1 → IVec S16 32) a x).toNat < S2048.size a)
theorem k0_idx4_inb : ∀ (v75 : IVec S16 32) (k0_hw4 : k0_chk4 v75), ∀ a x, ((![v75] : Fin 1 → IVec S16 32) a x).toNat < S2048.size a := fun v75 k0_hw4 => k0_hw4

def k0_chk5 (v79 : IVec S16 32) : Prop :=
  (∀ a x, ((![v79] : Fin 1 → IVec S16 32) a x).toNat < S2048.size a)
theorem k0_idx5_inb : ∀ (v79 : IVec S16 32) (k0_hw5 : k0_chk5 v79), ∀ a x, ((![v79] : Fin 1 → IVec S16 32) a x).toNat < S2048.size a := fun v79 k0_hw5 => k0_hw5

def k0_chk6 (v83 : IVec S16 32) : Prop :=
  (∀ a x, ((![v83] : Fin 1 → IVec S16 32) a x).toNat < S1024.size a)
theorem k0_idx6_inb : ∀ (v83 : IVec S16 32) (k0_hw6 : k0_chk6 v83), ∀ a x, ((![v83] : Fin 1 → IVec S16 32) a x).toNat < S1024.size a := fun v83 k0_hw6 => k0_hw6
@[reducible] def k0_t8_loop : Scf.Loop 32 :=
  let c0_i32_25 : BitVec 32 := 0#32
  let c128_i32_26 : BitVec 32 := 128#32
  let v18 : BitVec 32 := Scalar.addi c0_i32_25 c128_i32_26
  let c1_i32_27 : BitVec 32 := 1#32
  ⟨c0_i32_25, v18, c1_i32_27⟩
def k0_off10 (k0_t8 : Fin k0_t8_loop.trips) : Fin 1 → Nat :=
  let c0_i32_25 : BitVec 32 := 0#32
  let c1_i32_27 : BitVec 32 := 1#32
  let arg17 : BitVec 32 := Scf.iv c0_i32_25 c1_i32_27 k0_t8
  let c16_i32_62 : BitVec 32 := 16#32
  let v39 : BitVec 32 := Scalar.muli arg17 c16_i32_62
  let v40 : Index := Scalar.indexCast v39
  ![v40.toNat]
@[reducible] def k0_t9_loop : Scf.Loop 32 :=
  let c0_i32_30 : BitVec 32 := 0#32
  let c128_i32_31 : BitVec 32 := 128#32
  let v20 : BitVec 32 := Scalar.addi c0_i32_30 c128_i32_31
  let c1_i32_32 : BitVec 32 := 1#32
  ⟨c0_i32_30, v20, c1_i32_32⟩
def k0_off11 (k0_t9 : Fin k0_t9_loop.trips) : Fin 1 → Nat :=
  let c0_i32_30 : BitVec 32 := 0#32
  let c1_i32_32 : BitVec 32 := 1#32
  let arg17 : BitVec 32 := Scf.iv c0_i32_30 c1_i32_32 k0_t9
  let c16_i32_62 : BitVec 32 := 16#32
  let v39 : BitVec 32 := Scalar.muli arg17 c16_i32_62
  let v40 : Index := Scalar.indexCast v39
  ![v40.toNat]
@[reducible] def k0_t10_loop : Scf.Loop 32 :=
  let c0_i32_35 : BitVec 32 := 0#32
  let c64_i32_36 : BitVec 32 := 64#32
  let v22 : BitVec 32 := Scalar.addi c0_i32_35 c64_i32_36
  let c1_i32_37 : BitVec 32 := 1#32
  ⟨c0_i32_35, v22, c1_i32_37⟩
def k0_off12 (k0_t10 : Fin k0_t10_loop.trips) : Fin 1 → Nat :=
  let c0_i32_35 : BitVec 32 := 0#32
  let c1_i32_37 : BitVec 32 := 1#32
  let arg17 : BitVec 32 := Scf.iv c0_i32_35 c1_i32_37 k0_t10
  let c16_i32_62 : BitVec 32 := 16#32
  let v39 : BitVec 32 := Scalar.muli arg17 c16_i32_62
  let v40 : Index := Scalar.indexCast v39
  ![v40.toNat]
@[reducible] def k0_t11_loop : Scf.Loop 32 :=
  let c0_i32_42 : BitVec 32 := 0#32
  let c8_i32_43 : BitVec 32 := 8#32
  let v28 : BitVec 32 := Scalar.addi c0_i32_42 c8_i32_43
  let c1_i32_44 : BitVec 32 := 1#32
  ⟨c0_i32_42, v28, c1_i32_44⟩
def k0_cond3 (k0_t11 : Fin k0_t11_loop.trips) : BitVec 1 :=
  let c0_i32_42 : BitVec 32 := 0#32
  let c1_i32_44 : BitVec 32 := 1#32
  let arg17 : BitVec 32 := Scf.iv c0_i32_42 c1_i32_44 k0_t11
  let c2_i32 : BitVec 32 := 2#32
  let v39 : BitVec 32 := Scalar.muli arg17 c2_i32
  let c0_i32_62 : BitVec 32 := 0#32
  let v40 : BitVec 32 := Scalar.addi v39 c0_i32_62
  let c1_i32_63 : BitVec 32 := 1#32
  let v41 : BitVec 32 := Scalar.addi v40 c1_i32_63
  let c16_i32_64 : BitVec 32 := 16#32
  let v42 : BitVec 1 := Scalar.cmpi .slt v41 c16_i32_64
  let v43 : BitVec 32 := Scalar.extui v42
  let c0_i32_65 : BitVec 32 := 0#32
  let v44 : BitVec 1 := Scalar.cmpi .ne v43 c0_i32_65
  v44

def k0_off13 (i : grid0.Coords) (k0_t1 : Fin k0_t1_loop.trips) (k0_t11 : Fin k0_t11_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_42 : BitVec 32 := 0#32
  let c1_i32_44 : BitVec 32 := 1#32
  let arg17 : BitVec 32 := Scf.iv c0_i32_42 c1_i32_44 k0_t11
  let c2_i32 : BitVec 32 := 2#32
  let v39 : BitVec 32 := Scalar.muli arg17 c2_i32
  let c0_i32_62 : BitVec 32 := 0#32
  let v40 : BitVec 32 := Scalar.addi v39 c0_i32_62
  let c1_i32_81 : BitVec 32 := 1#32
  let v65 : BitVec 32 := Scalar.addi v40 c1_i32_81
  let c4096_i32_82 : BitVec 32 := 4096#32
  let v66 : BitVec 32 := Scalar.muli v65 c4096_i32_82
  ![v6.toNat, v66.toNat]
def k0_off14 (i : grid0.Coords) (k0_t1 : Fin k0_t1_loop.trips) (k0_t11 : Fin k0_t11_loop.trips) (c0_i32_62 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_42 : BitVec 32 := 0#32
  let c1_i32_44 : BitVec 32 := 1#32
  let arg17 : BitVec 32 := Scf.iv c0_i32_42 c1_i32_44 k0_t11
  let c2_i32 : BitVec 32 := 2#32
  let v39 : BitVec 32 := Scalar.muli arg17 c2_i32
  let v40 : BitVec 32 := Scalar.addi v39 c0_i32_62
  let c4096_i32 : BitVec 32 := 4096#32
  let v45 : BitVec 32 := Scalar.muli v40 c4096_i32
  ![v6.toNat, v45.toNat]
@[reducible] def k0_t12_loop : Scf.Loop 32 :=
  let c0_i32_67 : BitVec 32 := 0#32
  let c256_i32 : BitVec 32 := 256#32
  let v50 : BitVec 32 := Scalar.addi c0_i32_67 c256_i32
  let c1_i32_68 : BitVec 32 := 1#32
  ⟨c0_i32_67, v50, c1_i32_68⟩
def k0_off15 (k0_t12 : Fin k0_t12_loop.trips) : Fin 1 → Nat :=
  let c0_i32_67 : BitVec 32 := 0#32
  let c1_i32_68 : BitVec 32 := 1#32
  let arg18 : BitVec 32 := Scf.iv c0_i32_67 c1_i32_68 k0_t12
  let c16_i32_81 : BitVec 32 := 16#32
  let v65 : BitVec 32 := Scalar.muli arg18 c16_i32_81
  let v66 : Index := Scalar.indexCast v65
  ![v66.toNat]

def k0_chk8 (v82 : IVec S16 32) : Prop :=
  (∀ a x, ((![v82] : Fin 1 → IVec S16 32) a x).toNat < S65536.size a)
theorem k0_idx8_inb : ∀ (v82 : IVec S16 32) (k0_hw8 : k0_chk8 v82), ∀ a x, ((![v82] : Fin 1 → IVec S16 32) a x).toNat < S65536.size a := fun v82 k0_hw8 => k0_hw8

def k0_chk7 (v77 : IVec S16 32) : Prop :=
  (∀ a x, ((![v77] : Fin 1 → IVec S16 32) a x).toNat < S2048.size a) ∧
  (∀ a x, ((![v77] : Fin 1 → IVec S16 32) a x).toNat < S2048.size a)
theorem k0_idx7_inb : ∀ (v77 : IVec S16 32) (k0_hw7 : k0_chk7 v77), ∀ a x, ((![v77] : Fin 1 → IVec S16 32) a x).toNat < S2048.size a := fun v77 k0_hw7 => k0_hw7.1
theorem k0_idx9_inb : ∀ (v77 : IVec S16 32) (k0_hw7 : k0_chk7 v77), ∀ a x, ((![v77] : Fin 1 → IVec S16 32) a x).toNat < S2048.size a := fun v77 k0_hw7 => k0_hw7.2
def k0_cond4 (k0_t11 : Fin k0_t11_loop.trips) : BitVec 1 :=
  let c0_i32_42 : BitVec 32 := 0#32
  let c1_i32_44 : BitVec 32 := 1#32
  let arg17 : BitVec 32 := Scf.iv c0_i32_42 c1_i32_44 k0_t11
  let c2_i32_70 : BitVec 32 := 2#32
  let v52 : BitVec 32 := Scalar.muli arg17 c2_i32_70
  let c1_i32_71 : BitVec 32 := 1#32
  let v53 : BitVec 32 := Scalar.addi v52 c1_i32_71
  let c1_i32_72 : BitVec 32 := 1#32
  let v54 : BitVec 32 := Scalar.addi v53 c1_i32_72
  let c16_i32_73 : BitVec 32 := 16#32
  let v55 : BitVec 1 := Scalar.cmpi .slt v54 c16_i32_73
  let v56 : BitVec 32 := Scalar.extui v55
  let c0_i32_74 : BitVec 32 := 0#32
  let v57 : BitVec 1 := Scalar.cmpi .ne v56 c0_i32_74
  v57

def k0_off16 (i : grid0.Coords) (k0_t1 : Fin k0_t1_loop.trips) (k0_t11 : Fin k0_t11_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_42 : BitVec 32 := 0#32
  let c1_i32_44 : BitVec 32 := 1#32
  let arg17 : BitVec 32 := Scf.iv c0_i32_42 c1_i32_44 k0_t11
  let c2_i32_70 : BitVec 32 := 2#32
  let v52 : BitVec 32 := Scalar.muli arg17 c2_i32_70
  let c1_i32_71 : BitVec 32 := 1#32
  let v53 : BitVec 32 := Scalar.addi v52 c1_i32_71
  let c1_i32_81 : BitVec 32 := 1#32
  let v65 : BitVec 32 := Scalar.addi v53 c1_i32_81
  let c4096_i32_82 : BitVec 32 := 4096#32
  let v66 : BitVec 32 := Scalar.muli v65 c4096_i32_82
  ![v6.toNat, v66.toNat]
@[reducible] def k0_t13_loop : Scf.Loop 32 :=
  let c0_i32_77 : BitVec 32 := 0#32
  let c256_i32_78 : BitVec 32 := 256#32
  let v63 : BitVec 32 := Scalar.addi c0_i32_77 c256_i32_78
  let c1_i32_79 : BitVec 32 := 1#32
  ⟨c0_i32_77, v63, c1_i32_79⟩
def k0_off17 (k0_t13 : Fin k0_t13_loop.trips) : Fin 1 → Nat :=
  let c0_i32_77 : BitVec 32 := 0#32
  let c1_i32_79 : BitVec 32 := 1#32
  let arg18 : BitVec 32 := Scf.iv c0_i32_77 c1_i32_79 k0_t13
  let c16_i32_81 : BitVec 32 := 16#32
  let v65 : BitVec 32 := Scalar.muli arg18 c16_i32_81
  let v66 : Index := Scalar.indexCast v65
  ![v66.toNat]

def k0_chk10 (v82 : IVec S16 32) : Prop :=
  (∀ a x, ((![v82] : Fin 1 → IVec S16 32) a x).toNat < S65536.size a)
theorem k0_idx11_inb : ∀ (v82 : IVec S16 32) (k0_hw10 : k0_chk10 v82), ∀ a x, ((![v82] : Fin 1 → IVec S16 32) a x).toNat < S65536.size a := fun v82 k0_hw10 => k0_hw10

def k0_chk9 (v77 : IVec S16 32) : Prop :=
  (∀ a x, ((![v77] : Fin 1 → IVec S16 32) a x).toNat < S2048.size a) ∧
  (∀ a x, ((![v77] : Fin 1 → IVec S16 32) a x).toNat < S2048.size a)
theorem k0_idx10_inb : ∀ (v77 : IVec S16 32) (k0_hw9 : k0_chk9 v77), ∀ a x, ((![v77] : Fin 1 → IVec S16 32) a x).toNat < S2048.size a := fun v77 k0_hw9 => k0_hw9.1
theorem k0_idx12_inb : ∀ (v77 : IVec S16 32) (k0_hw9 : k0_chk9 v77), ∀ a x, ((![v77] : Fin 1 → IVec S16 32) a x).toNat < S2048.size a := fun v77 k0_hw9 => k0_hw9.2
def k0_off18 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_62_r0 : BitVec 32 := 0#32
  ![v6.toNat, 0]
@[reducible] def k0_t14_loop : Scf.Loop 32 :=
  let c0_i32_50 : BitVec 32 := 0#32
  let c8_i32_51 : BitVec 32 := 8#32
  let v33 : BitVec 32 := Scalar.addi c0_i32_50 c8_i32_51
  let c1_i32_52 : BitVec 32 := 1#32
  ⟨c0_i32_50, v33, c1_i32_52⟩
def k0_cond5 (k0_t14 : Fin k0_t14_loop.trips) : BitVec 1 :=
  let c0_i32_50 : BitVec 32 := 0#32
  let c1_i32_52 : BitVec 32 := 1#32
  let arg17 : BitVec 32 := Scf.iv c0_i32_50 c1_i32_52 k0_t14
  let c2_i32 : BitVec 32 := 2#32
  let v39 : BitVec 32 := Scalar.muli arg17 c2_i32
  let c0_i32_62 : BitVec 32 := 0#32
  let v40 : BitVec 32 := Scalar.addi v39 c0_i32_62
  let c1_i32_63 : BitVec 32 := 1#32
  let v41 : BitVec 32 := Scalar.addi v40 c1_i32_63
  let c16_i32_64 : BitVec 32 := 16#32
  let v42 : BitVec 1 := Scalar.cmpi .slt v41 c16_i32_64
  let v43 : BitVec 32 := Scalar.extui v42
  let c0_i32_65 : BitVec 32 := 0#32
  let v44 : BitVec 1 := Scalar.cmpi .ne v43 c0_i32_65
  v44

def k0_off19 (i : grid0.Coords) (k0_t1 : Fin k0_t1_loop.trips) (k0_t14 : Fin k0_t14_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_50 : BitVec 32 := 0#32
  let c1_i32_52 : BitVec 32 := 1#32
  let arg17 : BitVec 32 := Scf.iv c0_i32_50 c1_i32_52 k0_t14
  let c2_i32 : BitVec 32 := 2#32
  let v39 : BitVec 32 := Scalar.muli arg17 c2_i32
  let c0_i32_62 : BitVec 32 := 0#32
  let v40 : BitVec 32 := Scalar.addi v39 c0_i32_62
  let c1_i32_81 : BitVec 32 := 1#32
  let v65 : BitVec 32 := Scalar.addi v40 c1_i32_81
  let c4096_i32_82 : BitVec 32 := 4096#32
  let v66 : BitVec 32 := Scalar.muli v65 c4096_i32_82
  ![v6.toNat, v66.toNat]
def k0_off20 (i : grid0.Coords) (k0_t1 : Fin k0_t1_loop.trips) (k0_t14 : Fin k0_t14_loop.trips) (c0_i32_62 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_50 : BitVec 32 := 0#32
  let c1_i32_52 : BitVec 32 := 1#32
  let arg17 : BitVec 32 := Scf.iv c0_i32_50 c1_i32_52 k0_t14
  let c2_i32 : BitVec 32 := 2#32
  let v39 : BitVec 32 := Scalar.muli arg17 c2_i32
  let v40 : BitVec 32 := Scalar.addi v39 c0_i32_62
  let c4096_i32 : BitVec 32 := 4096#32
  let v45 : BitVec 32 := Scalar.muli v40 c4096_i32
  ![v6.toNat, v45.toNat]
@[reducible] def k0_t15_loop : Scf.Loop 32 :=
  let c0_i32_67 : BitVec 32 := 0#32
  let c256_i32 : BitVec 32 := 256#32
  let v50 : BitVec 32 := Scalar.addi c0_i32_67 c256_i32
  let c1_i32_68 : BitVec 32 := 1#32
  ⟨c0_i32_67, v50, c1_i32_68⟩
def k0_off21 (k0_t15 : Fin k0_t15_loop.trips) : Fin 1 → Nat :=
  let c0_i32_67 : BitVec 32 := 0#32
  let c1_i32_68 : BitVec 32 := 1#32
  let arg18 : BitVec 32 := Scf.iv c0_i32_67 c1_i32_68 k0_t15
  let c16_i32_81 : BitVec 32 := 16#32
  let v65 : BitVec 32 := Scalar.muli arg18 c16_i32_81
  let v66 : Index := Scalar.indexCast v65
  ![v66.toNat]

def k0_chk12 (v76 : IVec S16 32) : Prop :=
  (∀ a x, ((![v76] : Fin 1 → IVec S16 32) a x).toNat < S65536.size a)
theorem k0_idx14_inb : ∀ (v76 : IVec S16 32) (k0_hw12 : k0_chk12 v76), ∀ a x, ((![v76] : Fin 1 → IVec S16 32) a x).toNat < S65536.size a := fun v76 k0_hw12 => k0_hw12

def k0_chk11 (v71 : IVec S16 32) : Prop :=
  (∀ a x, ((![v71] : Fin 1 → IVec S16 32) a x).toNat < S2048.size a) ∧
  (∀ a x, ((![v71] : Fin 1 → IVec S16 32) a x).toNat < S2048.size a)
theorem k0_idx13_inb : ∀ (v71 : IVec S16 32) (k0_hw11 : k0_chk11 v71), ∀ a x, ((![v71] : Fin 1 → IVec S16 32) a x).toNat < S2048.size a := fun v71 k0_hw11 => k0_hw11.1
theorem k0_idx15_inb : ∀ (v71 : IVec S16 32) (k0_hw11 : k0_chk11 v71), ∀ a x, ((![v71] : Fin 1 → IVec S16 32) a x).toNat < S2048.size a := fun v71 k0_hw11 => k0_hw11.2
def k0_cond6 (k0_t14 : Fin k0_t14_loop.trips) : BitVec 1 :=
  let c0_i32_50 : BitVec 32 := 0#32
  let c1_i32_52 : BitVec 32 := 1#32
  let arg17 : BitVec 32 := Scf.iv c0_i32_50 c1_i32_52 k0_t14
  let c2_i32_70 : BitVec 32 := 2#32
  let v52 : BitVec 32 := Scalar.muli arg17 c2_i32_70
  let c1_i32_71 : BitVec 32 := 1#32
  let v53 : BitVec 32 := Scalar.addi v52 c1_i32_71
  let c1_i32_72 : BitVec 32 := 1#32
  let v54 : BitVec 32 := Scalar.addi v53 c1_i32_72
  let c16_i32_73 : BitVec 32 := 16#32
  let v55 : BitVec 1 := Scalar.cmpi .slt v54 c16_i32_73
  let v56 : BitVec 32 := Scalar.extui v55
  let c0_i32_74 : BitVec 32 := 0#32
  let v57 : BitVec 1 := Scalar.cmpi .ne v56 c0_i32_74
  v57

def k0_off22 (i : grid0.Coords) (k0_t1 : Fin k0_t1_loop.trips) (k0_t14 : Fin k0_t14_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_50 : BitVec 32 := 0#32
  let c1_i32_52 : BitVec 32 := 1#32
  let arg17 : BitVec 32 := Scf.iv c0_i32_50 c1_i32_52 k0_t14
  let c2_i32_70 : BitVec 32 := 2#32
  let v52 : BitVec 32 := Scalar.muli arg17 c2_i32_70
  let c1_i32_71 : BitVec 32 := 1#32
  let v53 : BitVec 32 := Scalar.addi v52 c1_i32_71
  let c1_i32_81 : BitVec 32 := 1#32
  let v65 : BitVec 32 := Scalar.addi v53 c1_i32_81
  let c4096_i32_82 : BitVec 32 := 4096#32
  let v66 : BitVec 32 := Scalar.muli v65 c4096_i32_82
  ![v6.toNat, v66.toNat]
@[reducible] def k0_t16_loop : Scf.Loop 32 :=
  let c0_i32_77 : BitVec 32 := 0#32
  let c256_i32_78 : BitVec 32 := 256#32
  let v63 : BitVec 32 := Scalar.addi c0_i32_77 c256_i32_78
  let c1_i32_79 : BitVec 32 := 1#32
  ⟨c0_i32_77, v63, c1_i32_79⟩
def k0_off23 (k0_t16 : Fin k0_t16_loop.trips) : Fin 1 → Nat :=
  let c0_i32_77 : BitVec 32 := 0#32
  let c1_i32_79 : BitVec 32 := 1#32
  let arg18 : BitVec 32 := Scf.iv c0_i32_77 c1_i32_79 k0_t16
  let c16_i32_81 : BitVec 32 := 16#32
  let v65 : BitVec 32 := Scalar.muli arg18 c16_i32_81
  let v66 : Index := Scalar.indexCast v65
  ![v66.toNat]

def k0_chk14 (v76 : IVec S16 32) : Prop :=
  (∀ a x, ((![v76] : Fin 1 → IVec S16 32) a x).toNat < S65536.size a)
theorem k0_idx17_inb : ∀ (v76 : IVec S16 32) (k0_hw14 : k0_chk14 v76), ∀ a x, ((![v76] : Fin 1 → IVec S16 32) a x).toNat < S65536.size a := fun v76 k0_hw14 => k0_hw14

def k0_chk13 (v71 : IVec S16 32) : Prop :=
  (∀ a x, ((![v71] : Fin 1 → IVec S16 32) a x).toNat < S2048.size a) ∧
  (∀ a x, ((![v71] : Fin 1 → IVec S16 32) a x).toNat < S2048.size a)
theorem k0_idx16_inb : ∀ (v71 : IVec S16 32) (k0_hw13 : k0_chk13 v71), ∀ a x, ((![v71] : Fin 1 → IVec S16 32) a x).toNat < S2048.size a := fun v71 k0_hw13 => k0_hw13.1
theorem k0_idx18_inb : ∀ (v71 : IVec S16 32) (k0_hw13 : k0_chk13 v71), ∀ a x, ((![v71] : Fin 1 → IVec S16 32) a x).toNat < S2048.size a := fun v71 k0_hw13 => k0_hw13.2
@[reducible] def k0_t17_loop : Scf.Loop 32 :=
  let c0_i32_57 : BitVec 32 := 0#32
  let c8_i32_58 : BitVec 32 := 8#32
  let v38 : BitVec 32 := Scalar.addi c0_i32_57 c8_i32_58
  let c1_i32_59 : BitVec 32 := 1#32
  ⟨c0_i32_57, v38, c1_i32_59⟩
def k0_cond7 (k0_t17 : Fin k0_t17_loop.trips) : BitVec 1 :=
  let c0_i32_57 : BitVec 32 := 0#32
  let c1_i32_59 : BitVec 32 := 1#32
  let arg17 : BitVec 32 := Scf.iv c0_i32_57 c1_i32_59 k0_t17
  let c2_i32 : BitVec 32 := 2#32
  let v39 : BitVec 32 := Scalar.muli arg17 c2_i32
  let c0_i32_62 : BitVec 32 := 0#32
  let v40 : BitVec 32 := Scalar.addi v39 c0_i32_62
  let c1_i32_63 : BitVec 32 := 1#32
  let v41 : BitVec 32 := Scalar.addi v40 c1_i32_63
  let c16_i32_64 : BitVec 32 := 16#32
  let v42 : BitVec 1 := Scalar.cmpi .slt v41 c16_i32_64
  let v43 : BitVec 32 := Scalar.extui v42
  let c0_i32_65 : BitVec 32 := 0#32
  let v44 : BitVec 1 := Scalar.cmpi .ne v43 c0_i32_65
  v44

def k0_off24 (i : grid0.Coords) (k0_t1 : Fin k0_t1_loop.trips) (k0_t17 : Fin k0_t17_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_57 : BitVec 32 := 0#32
  let c1_i32_59 : BitVec 32 := 1#32
  let arg17 : BitVec 32 := Scf.iv c0_i32_57 c1_i32_59 k0_t17
  let c2_i32 : BitVec 32 := 2#32
  let v39 : BitVec 32 := Scalar.muli arg17 c2_i32
  let c0_i32_62 : BitVec 32 := 0#32
  let v40 : BitVec 32 := Scalar.addi v39 c0_i32_62
  let c1_i32_81 : BitVec 32 := 1#32
  let v65 : BitVec 32 := Scalar.addi v40 c1_i32_81
  let c4096_i32_82 : BitVec 32 := 4096#32
  let v66 : BitVec 32 := Scalar.muli v65 c4096_i32_82
  ![v6.toNat, v66.toNat]
def k0_off25 (i : grid0.Coords) (k0_t1 : Fin k0_t1_loop.trips) (k0_t17 : Fin k0_t17_loop.trips) (c0_i32_62 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_57 : BitVec 32 := 0#32
  let c1_i32_59 : BitVec 32 := 1#32
  let arg17 : BitVec 32 := Scf.iv c0_i32_57 c1_i32_59 k0_t17
  let c2_i32 : BitVec 32 := 2#32
  let v39 : BitVec 32 := Scalar.muli arg17 c2_i32
  let v40 : BitVec 32 := Scalar.addi v39 c0_i32_62
  let c4096_i32 : BitVec 32 := 4096#32
  let v45 : BitVec 32 := Scalar.muli v40 c4096_i32
  ![v6.toNat, v45.toNat]
@[reducible] def k0_t18_loop : Scf.Loop 32 :=
  let c0_i32_67 : BitVec 32 := 0#32
  let c256_i32 : BitVec 32 := 256#32
  let v50 : BitVec 32 := Scalar.addi c0_i32_67 c256_i32
  let c1_i32_68 : BitVec 32 := 1#32
  ⟨c0_i32_67, v50, c1_i32_68⟩
def k0_off26 (k0_t18 : Fin k0_t18_loop.trips) : Fin 1 → Nat :=
  let c0_i32_67 : BitVec 32 := 0#32
  let c1_i32_68 : BitVec 32 := 1#32
  let arg18 : BitVec 32 := Scf.iv c0_i32_67 c1_i32_68 k0_t18
  let c16_i32_81 : BitVec 32 := 16#32
  let v65 : BitVec 32 := Scalar.muli arg18 c16_i32_81
  let v66 : Index := Scalar.indexCast v65
  ![v66.toNat]

def k0_chk16 (v76 : IVec S16 32) : Prop :=
  (∀ a x, ((![v76] : Fin 1 → IVec S16 32) a x).toNat < S65536.size a)
theorem k0_idx20_inb : ∀ (v76 : IVec S16 32) (k0_hw16 : k0_chk16 v76), ∀ a x, ((![v76] : Fin 1 → IVec S16 32) a x).toNat < S65536.size a := fun v76 k0_hw16 => k0_hw16

def k0_chk15 (v71 : IVec S16 32) : Prop :=
  (∀ a x, ((![v71] : Fin 1 → IVec S16 32) a x).toNat < S1024.size a) ∧
  (∀ a x, ((![v71] : Fin 1 → IVec S16 32) a x).toNat < S1024.size a)
theorem k0_idx19_inb : ∀ (v71 : IVec S16 32) (k0_hw15 : k0_chk15 v71), ∀ a x, ((![v71] : Fin 1 → IVec S16 32) a x).toNat < S1024.size a := fun v71 k0_hw15 => k0_hw15.1
theorem k0_idx21_inb : ∀ (v71 : IVec S16 32) (k0_hw15 : k0_chk15 v71), ∀ a x, ((![v71] : Fin 1 → IVec S16 32) a x).toNat < S1024.size a := fun v71 k0_hw15 => k0_hw15.2
def k0_cond8 (k0_t17 : Fin k0_t17_loop.trips) : BitVec 1 :=
  let c0_i32_57 : BitVec 32 := 0#32
  let c1_i32_59 : BitVec 32 := 1#32
  let arg17 : BitVec 32 := Scf.iv c0_i32_57 c1_i32_59 k0_t17
  let c2_i32_70 : BitVec 32 := 2#32
  let v52 : BitVec 32 := Scalar.muli arg17 c2_i32_70
  let c1_i32_71 : BitVec 32 := 1#32
  let v53 : BitVec 32 := Scalar.addi v52 c1_i32_71
  let c1_i32_72 : BitVec 32 := 1#32
  let v54 : BitVec 32 := Scalar.addi v53 c1_i32_72
  let c16_i32_73 : BitVec 32 := 16#32
  let v55 : BitVec 1 := Scalar.cmpi .slt v54 c16_i32_73
  let v56 : BitVec 32 := Scalar.extui v55
  let c0_i32_74 : BitVec 32 := 0#32
  let v57 : BitVec 1 := Scalar.cmpi .ne v56 c0_i32_74
  v57

def k0_off27 (i : grid0.Coords) (k0_t1 : Fin k0_t1_loop.trips) (k0_t17 : Fin k0_t17_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_3 : BitVec 32 := 8#32
  let v5 : BitVec 32 := Scalar.muli v1 c8_i32_3
  let c0_i32_0 : BitVec 32 := 0#32
  let c1_i32_1 : BitVec 32 := 1#32
  let arg15 : BitVec 32 := Scf.iv c0_i32_0 c1_i32_1 k0_t1
  let v6 : BitVec 32 := Scalar.addi v5 arg15
  let c0_i32_57 : BitVec 32 := 0#32
  let c1_i32_59 : BitVec 32 := 1#32
  let arg17 : BitVec 32 := Scf.iv c0_i32_57 c1_i32_59 k0_t17
  let c2_i32_70 : BitVec 32 := 2#32
  let v52 : BitVec 32 := Scalar.muli arg17 c2_i32_70
  let c1_i32_71 : BitVec 32 := 1#32
  let v53 : BitVec 32 := Scalar.addi v52 c1_i32_71
  let c1_i32_81 : BitVec 32 := 1#32
  let v65 : BitVec 32 := Scalar.addi v53 c1_i32_81
  let c4096_i32_82 : BitVec 32 := 4096#32
  let v66 : BitVec 32 := Scalar.muli v65 c4096_i32_82
  ![v6.toNat, v66.toNat]
@[reducible] def k0_t19_loop : Scf.Loop 32 :=
  let c0_i32_77 : BitVec 32 := 0#32
  let c256_i32_78 : BitVec 32 := 256#32
  let v63 : BitVec 32 := Scalar.addi c0_i32_77 c256_i32_78
  let c1_i32_79 : BitVec 32 := 1#32
  ⟨c0_i32_77, v63, c1_i32_79⟩
def k0_off28 (k0_t19 : Fin k0_t19_loop.trips) : Fin 1 → Nat :=
  let c0_i32_77 : BitVec 32 := 0#32
  let c1_i32_79 : BitVec 32 := 1#32
  let arg18 : BitVec 32 := Scf.iv c0_i32_77 c1_i32_79 k0_t19
  let c16_i32_81 : BitVec 32 := 16#32
  let v65 : BitVec 32 := Scalar.muli arg18 c16_i32_81
  let v66 : Index := Scalar.indexCast v65
  ![v66.toNat]

def k0_chk18 (v76 : IVec S16 32) : Prop :=
  (∀ a x, ((![v76] : Fin 1 → IVec S16 32) a x).toNat < S65536.size a)
theorem k0_idx23_inb : ∀ (v76 : IVec S16 32) (k0_hw18 : k0_chk18 v76), ∀ a x, ((![v76] : Fin 1 → IVec S16 32) a x).toNat < S65536.size a := fun v76 k0_hw18 => k0_hw18

def k0_chk17 (v71 : IVec S16 32) : Prop :=
  (∀ a x, ((![v71] : Fin 1 → IVec S16 32) a x).toNat < S1024.size a) ∧
  (∀ a x, ((![v71] : Fin 1 → IVec S16 32) a x).toNat < S1024.size a)
theorem k0_idx22_inb : ∀ (v71 : IVec S16 32) (k0_hw17 : k0_chk17 v71), ∀ a x, ((![v71] : Fin 1 → IVec S16 32) a x).toNat < S1024.size a := fun v71 k0_hw17 => k0_hw17.1
theorem k0_idx24_inb : ∀ (v71 : IVec S16 32) (k0_hw17 : k0_chk17 v71), ∀ a x, ((![v71] : Fin 1 → IVec S16 32) a x).toNat < S1024.size a := fun v71 k0_hw17 => k0_hw17.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536x256 : Shape := ⟨2, ![65536, 256]⟩
abbrev S256x65536 : Shape := ⟨2, ![256, 65536]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x65536, .f32⟩
  | .hbm, ⟨2, _⟩ => ⟨S256x65536, .i32⟩
  | .hbm, ⟨3, _⟩ => ⟨S_, .i32⟩
  | .hbm, ⟨4, _⟩ => ⟨S256x65536, .i32⟩
  | .hbm, ⟨5, _⟩ => ⟨S256x65536, .i32⟩
  | .hbm, ⟨6, _⟩ => ⟨S_, .i32⟩
  | .hbm, ⟨7, _⟩ => ⟨S256x65536, .i32⟩
  | .hbm, ⟨8, _⟩ => ⟨S256x65536, .i1⟩
  | .hbm, ⟨9, _⟩ => ⟨S256x65536, .i32⟩
  | .hbm, ⟨10, _⟩ => ⟨S_, .i32⟩
  | .hbm, ⟨11, _⟩ => ⟨S256x65536, .i32⟩
  | .hbm, ⟨12, _⟩ => ⟨S256x65536, .i32⟩
  | .hbm, ⟨13, _⟩ => ⟨S256x65536, .i32⟩
  | .hbm, ⟨14, _⟩ => ⟨S256x65536, .i32⟩
  | .hbm, ⟨15, _⟩ => ⟨S256x65536, .i32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [BitOps F]
-- ==== Tail.lean ====
abbrev S256x65536 : Shape := ⟨2, ![256, 65536]⟩
abbrev S65536 : Shape := ⟨1, ![65536]⟩
abbrev S_ : Shape := ⟨0, ![]⟩
abbrev S1x256 : Shape := ⟨2, ![1, 256]⟩
abbrev S256x4096 : Shape := ⟨2, ![256, 4096]⟩
abbrev S4096 : Shape := ⟨1, ![4096]⟩
abbrev S1x4096 : Shape := ⟨2, ![1, 4096]⟩
abbrev S256 : Shape := ⟨1, ![256]⟩

abbrev nBuf : Space → Nat
  | .hbm => 21
  | .vmem => 6
  | .smem => 0
  | _ => 0

abbrev bufTy : (tb : Table) → Fin (tcTables nBuf tb) → BufTy
  | .hbm, ⟨0, _⟩ => ⟨S256x65536, .i32⟩
  | .hbm, ⟨1, _⟩ => ⟨S65536, .f32⟩
  | .hbm, ⟨2, _⟩ => ⟨S65536, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x256, .f32⟩
  | .hbm, ⟨7, _⟩ => ⟨S1x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .local _ .vmem, ⟨0, _⟩ => ⟨S256x4096, .i32⟩
  | .local _ .vmem, ⟨1, _⟩ => ⟨S256x4096, .i32⟩
  | .local _ .vmem, ⟨2, _⟩ => ⟨S4096, .f32⟩
  | .local _ .vmem, ⟨3, _⟩ => ⟨S4096, .f32⟩
  | .local _ .vmem, ⟨4, _⟩ => ⟨S1x256, .f32⟩
  | .local _ .vmem, ⟨5, _⟩ => ⟨S1x256, .f32⟩
  | _, _ => ⟨S256x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== TailReferenceIdeal.lean ====
abbrev S256x65536 : Shape := ⟨2, ![256, 65536]⟩
abbrev S65536 : Shape := ⟨1, ![65536]⟩
abbrev S_ : Shape := ⟨0, ![]⟩
abbrev S65536x256 : Shape := ⟨2, ![65536, 256]⟩
abbrev S65536x1 : Shape := ⟨2, ![65536, 1]⟩
abbrev S256 : Shape := ⟨1, ![256]⟩

abbrev nBuf : Space → Nat
  | .hbm => 39
  | .vmem => 0
  | .smem => 0
  | _ => 0

abbrev bufTy : (tb : Table) → Fin (tcTables nBuf tb) → BufTy
  | .hbm, ⟨0, _⟩ => ⟨S256x65536, .i32⟩
  | .hbm, ⟨1, _⟩ => ⟨S65536, .f32⟩
  | .hbm, ⟨2, _⟩ => ⟨S256x65536, .i32⟩
  | .hbm, ⟨3, _⟩ => ⟨S_, .i32⟩
  | .hbm, ⟨4, _⟩ => ⟨S256x65536, .i32⟩
  | .hbm, ⟨5, _⟩ => ⟨S256x65536, .i32⟩
  | .hbm, ⟨6, _⟩ => ⟨S_, .i32⟩
  | .hbm, ⟨7, _⟩ => ⟨S256x65536, .i32⟩
  | .hbm, ⟨8, _⟩ => ⟨S256x65536, .i1⟩
  | .hbm, ⟨9, _⟩ => ⟨S_, .i32⟩
  | .hbm, ⟨10, _⟩ => ⟨S256x65536, .i32⟩
  | .hbm, ⟨11, _⟩ => ⟨S256x65536, .i32⟩
  | .hbm, ⟨12, _⟩ => ⟨S256x65536, .i32⟩
  | .hbm, ⟨13, _⟩ => ⟨S256x65536, .i32⟩
  | .hbm, ⟨14, _⟩ => ⟨S256x65536, .f32⟩
  | .hbm, ⟨15, _⟩ => ⟨S65536x256, .f32⟩
  | .hbm, ⟨16, _⟩ => ⟨S65536x1, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S65536x256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | _, _ => ⟨S256x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v16 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Cells.lean ====
/-
  A tile's memories as what a memref reads: `At c m q g`, holding the elements under `m` at share `q` where `m` reads
  `g`, and `Row`, one row of a two-axis array; with the rule of each operation the sorting kernel's tile performs — a
  load or a store of part of a memref, the indexed load and store, the copy of a window of a row into a buffer, the
  copy of a buffer onto a whole row, and the wait for either.
-/
module

public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers

@[expose] public section

noncomputable section

namespace Cert.Cells

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp : Space} {s t : Shape} {e : EltTy} {α : Type} {Q : α → sProp (MT nD τ sig Ix (Elt F) Name U Lvl)}

local notation "𝕄" => MT nD τ sig Ix (Elt F) Name U Lvl

/-! ## What a memref reads -/

/-- The elements under `m`, held at share `q`, where `m` reads `g`. -/
def At (m : Memref sig c.2.kind sp s e) (q : PosShare TreeShare) (g : s.Idx → Elt F e) : sProp 𝕄 :=
  iprop(∃ f : Buf (Elt F) (m.view.loc c), ⌜m.view.read (Elt F) f = g⌝ ∗ (m.view.loc c ↦[m.view.set]{q} f))

theorem at_intro (m : Memref sig c.2.kind sp s e) (q : PosShare TreeShare) (f : Buf (Elt F) (m.view.loc c)) :
    (m.view.loc c ↦[m.view.set]{q} f : sProp 𝕄) ⊢ At c m q (m.view.read (Elt F) f) := by
  unfold At
  iintro H; iexists f
  isplitr; · ipureintro; rfl
  iexact H

/-- A load of the coordinates `r` names, what it reads given as `g'`. -/
theorem at_loadTo {cs : CoreSpace} {m : Memref sig c.2.kind cs s e} {r : LoadRect s} {hl : m.view.LoadsAt r}
    {k : (r.shape.Idx → Elt F e) → Prog (TpuEff nD τ sig (Elt F) Λ c.2) α} {q : PosShare TreeShare} {g : s.Idx → Elt F e}
    (g' : r.shape.Idx → Elt F e) (hg : ∀ x, g' x = g (r.idx x)) :
    At c m q g
      ⊢ iprop((At c m q g -∗ wp frame (wpE defs 𝒱 c bd) Set.univ (k g') Q)
          -∗ wp frame (wpE defs 𝒱 c bd) Set.univ (.op (.load m r hl) k) Q) := by
  unfold At
  iintro ⟨%f, %hf, H⟩ Hk
  iapply (wp_load 𝒱 c bd Set.univ (m := m) (r := r) (k := k) (m.view.setOn_subset_set _)) $$ H
  iintro H
  have h : m.view.readAt (Elt F) r f = g' := by funext x; rw [View.readAt_apply, hf, hg]
  rw [h]
  iapply Hk
  iexists f
  isplitr; · ipureintro; exact hf
  iexact H

/-- A store of every element of the rectangle `r`: the memref reads `g'` after it, which is the stored vector on the
    rectangle and what it read before off it. -/
theorem at_store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {g : s.Idx → Elt F e} (g' : s.Idx → Elt F e)
    (hin : ∀ x, g' (r.emb x) = w x) (hout : ∀ y, (∀ x, r.emb x ≠ y) → g' y = g y) :
    At c m fullShare g
      ⊢ iprop((At c m fullShare g' -∗ wp frame (wpE defs 𝒱 c bd) Set.univ (k ⟨⟩) Q)
          -∗ wp frame (wpE defs 𝒱 c bd) Set.univ (.op (.store m r w Finset.univ hx hm) k) Q) := by
  unfold At
  iintro ⟨%f, %hf, H⟩ Hk
  iapply (wp_store 𝒱 c bd Set.univ (m := m) (r := r) (w := w) (Mk := Finset.univ) (k := k) (S := m.view.set) (f := f)
    ((View.setOn_subset_set _ _).trans (View.set_slice_subset _ r))) $$ H
  iintro H
  iapply Hk
  iexists _
  isplitr [H]
  rotate_left
  · iexact H
  · ipureintro
    funext y
    by_cases hy : ∃ x, r.emb x = y
    · obtain ⟨x, rfl⟩ := hy
      rw [hin]
      exact View.read_slice_write_emb (v := m.view) r f w (Finset.mem_univ x)
    · have hy' : ∀ x, r.emb x ≠ y := fun x hx => hy ⟨x, hx⟩
      rw [hout y hy', ← hf]
      exact View.read_slice_write_of_not_mem (v := m.view) r f w Finset.univ (by
        rw [Finset.mem_map]; rintro ⟨x, -, hx⟩; exact hy' x hx)

/-- What the whole rectangle of a memref holds is what the memref holds. -/
theorem emb_whole (x : s.Idx) : (Rect.whole s).emb x = x := by
  funext a; apply Fin.ext
  rw [Rect.emb_apply]
  show 0 + 1 * (x a).val = (x a).val
  omega

section Indexed

variable [BitOps F]

/-- The indexed load: each lane the element its indices name. -/
theorem at_loadIdx {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {g : s.Idx → Elt F e} :
    At c base q g
      ⊢ iprop((At c base q g -∗ wp frame (wpE defs 𝒱 c bd) Set.univ (k (loadIdx g idxs h)) Q)
          -∗ wp frame (wpE defs 𝒱 c bd) Set.univ (SparseCore.vectorLoadIdx base idxs h hl >>= k) Q) :=
  at_loadTo 𝒱 c bd (m := base) (r := (Rect.whole s).toLoadRect) (hl := View.loadsAt_whole hl) (k := fun f => k (loadIdx f idxs h)) g
    fun x => congrArg g (emb_whole x).symm

/-- The indexed store: the memref reads the scatter of what it read. -/
theorem at_storeIdx {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {g : s.Idx → Elt F e} :
    At c base fullShare g
      ⊢ iprop((At c base fullShare (storeIdx g idxs v mask add h) -∗ wp frame (wpE defs 𝒱 c bd) Set.univ (k ⟨⟩) Q)
          -∗ wp frame (wpE defs 𝒱 c bd) Set.univ (SparseCore.vectorStoreIdx base idxs v mask add h hs >>= k) Q) := by
  show _ ⊢ iprop(_ -∗ wp frame (wpE defs 𝒱 c bd) Set.univ
    (.op (.load base (.whole s) (View.loadsAt_rect hs.loads)) fun f =>
      .op (.store base (.whole s) (storeIdx f idxs v mask add h) Finset.univ hs (.inl rfl)) k) Q)
  iintro H Hk
  iapply (at_loadTo 𝒱 c bd (m := base) (r := (Rect.whole s).toLoadRect) (hl := View.loadsAt_rect hs.loads)
    (k := fun f => .op (.store base (.whole s) (storeIdx f idxs v mask add h) Finset.univ hs (.inl rfl)) k) g
    fun x => congrArg g (emb_whole x).symm) $$ H
  iintro H
  iapply (at_store 𝒱 c bd (m := base) (r := .whole s) (storeIdx g idxs v mask add h) (fun x => congrArg _ (emb_whole x))
    (fun y hy => absurd (emb_whole y) (hy y))) $$ H
  iexact Hk

end Indexed

/-! ## A transfer in flight carries what its delivery is joined to -/

variable (EC : UEmb Counters (MT nD τ sig Ix (Elt F) Name U Lvl))

theorem flight_frame {sm : SemLoc sig} {ι : Ix} {N : ℕ} {D X : sProp 𝕄} :
    iprop(Flight EC c sm ι N D ∗ X) ⊢ Flight EC c sm ι N iprop(D ∗ X) := by
  unfold Flight
  iintro ⟨⟨⟨%R, HR, %hcap, %hpeek⟩, Hcred⟩, HX⟩
  isplitl [HR HX]
  · iexists iprop(R ∗ X)
    isplitl [HR HX]
    · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-- What a thread owes, with the waits it has recorded being those of `W` and waits of its own. -/
def Ow (ι : Ix) (O : CellTallies nD τ sig Ix) (W : Waits sig Ix) : sProp 𝕄 :=
  iprop(∃ W', ⌜∀ p ∈ W', p ∈ W ∨ p.2 = ι⌝ ∗ owes c O W')

/-- The wait for a transfer in flight. -/
theorem at_wait [EC.LandsIn (upEmb : UEmb _ 𝕄)] {sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) (N : ℕ) (hN : dstw.view.dmaCredit = N) {D : sProp 𝕄}
    {O : CellTallies nD τ sig Ix} {W : Waits sig Ix} :
    iprop(Flight EC c (.dma sem) ι N D ∗ Ow c ι O W ∗ MayWaits c ι O)
      ⊢ iprop((iprop(D ∗ semVal (c, .dma sem) 0 ∗ Ow c ι O W) -∗ wp frame (wpE defs 𝒱 c bd) Set.univ (k ⟨⟩) Q)
          -∗ wp frame (wpE defs 𝒱 c bd) Set.univ (.op (.waitDma2 sem srcw dstw hsrc hdst) k) Q) := by
  unfold Ow
  iintro ⟨HF, ⟨%W', %hW, HO⟩, Hmw⟩ Hk
  iapply (wp_waitLocalO EC 𝒱 c bd ι hN) $$ [HF HO Hmw]
  · isplitl [HF]; · iexact HF
    isplitl [HO]; · iexact HO
    iapply (MayWaits.elim (.dma sem)) $$ Hmw
  iintro ⟨HD, Hv, HO⟩
  iapply Hk
  isplitl [HD]; · iexact HD
  isplitl [Hv]; · iexact Hv
  iexists _
  isplitr [HO]
  rotate_left
  · iexact HO
  · ipureintro
    intro p hp
    rcases Finset.mem_insert.mp hp with rfl | hp
    · exact .inr rfl
    · exact hW p hp

/-! ## Rows of a two-axis array -/

abbrev Arr : Shape := ⟨2, ![256, 65536]⟩
abbrev Win (n : ℕ) : Shape := ⟨1, ![n]⟩
abbrev Band (n : ℕ) : Shape := ⟨2, ![1, n]⟩

/-- Column `k` of row `r`. -/
def cell (r : Fin 256) (k : ℕ) : Arr.Idx :=
  Shape.pair (d := ![256, 65536]) r (⟨k % 65536, Nat.mod_lt _ (by decide)⟩ : Fin 65536)

theorem cell_zero (r : Fin 256) (k : ℕ) : (cell r k 0).val = r.val := rfl
theorem cell_one (r : Fin 256) (k : ℕ) : (cell r k 1).val = k % 65536 := rfl

theorem eq_cell (r : Fin 256) (y : Arr.Idx) (h0 : (y 0).val = r.val) : y = cell r (y 1).val := by
  have h1 : (y 1).val < 65536 := (y 1).isLt
  funext a; apply Fin.ext
  match a with
  | ⟨0, _⟩ => exact h0
  | ⟨1, _⟩ => show (y 1).val = (y 1).val % 65536; omega

/-- The window of `n` columns of row `r` from column `w`, as the kernel writes it. -/
abbrev win {κ : Kind} {sp : Space} (A : Memref sig κ sp Arr e) (n : ℕ) (off : Fin 2 → ℕ)
    (inb : ∀ a, off a + (Band n).size a ≤ Arr.size a) (hq : (Band n).Squeezes (Win n)) : Memref sig κ sp (Win n) e :=
  (A.slice (Rect.unit (s := Arr) off (Band n).size inb) fun _ => rfl).squeeze (Win n) hq

theorem win_coord (n : ℕ) (off : Fin 2 → ℕ) (inb : ∀ a, off a + (Band n).size a ≤ Arr.size a)
    (hq : (Win n).numel = (Band n).numel) (r : Fin 256) (w : ℕ) (hoff : off = ![r.val, w]) (hw : w + n ≤ 65536) (x : (Win n).Idx) :
    (Rect.unit (s := Arr) off (Band n).size inb).emb (Shape.reshapeEquiv hq x) = cell r (w + (x 0).val) := by
  subst hoff
  have hx : (x 0).val < n := (x 0).isLt
  have e1 : Shape.reshapeEquiv hq x = Fin.cons ⟨0, Nat.one_pos⟩ x := Shape.reshapeEquiv_cons_one hq x
  funext a; apply Fin.ext
  rw [Rect.emb_apply]
  match a with
  | ⟨0, _⟩ =>
    show r.val + 1 * (Shape.reshapeEquiv hq x 0).val = r.val
    rw [e1]; show r.val + 1 * 0 = r.val; omega
  | ⟨1, _⟩ =>
    show w + 1 * (Shape.reshapeEquiv hq x 1).val = (w + (x 0).val) % 65536
    rw [e1]; show w + 1 * (x 0).val = _; omega

/-- The elements of row `r`. -/
def rowSet {κ : Kind} (A : Memref sig κ sp Arr e) (r : Fin 256) : Finset A.view.ty.Idx :=
  A.view.setOn (Finset.univ.filter fun y => (y 0).val = r.val)

/-- Row `r` of `A`, held at share `q`, its column `k` reading `g k`. -/
def Row (A : Memref sig c.2.kind sp Arr e) (r : Fin 256) (q : PosShare TreeShare) (g : ℕ → Elt F e) : sProp 𝕄 :=
  iprop(∃ f : Buf (Elt F) (A.view.loc c), ⌜∀ k < 65536, A.view.read (Elt F) f (cell r k) = g k⌝ ∗ (A.view.loc c ↦[rowSet A r]{q} f))

theorem row_split (A : Memref sig c.2.kind sp Arr e) (r : Fin 256) (q : PosShare TreeShare) (g : ℕ → Elt F e) :
    (Row c A r q g : sProp 𝕄) ⊢ iprop(Row c A r q.left g ∗ Row c A r q.right g) := by
  unfold Row
  iintro ⟨%f, %hf, H⟩
  ihave H' := (pointsTo_share (PosShare.mem_left_op_right q)).1 $$ H
  icases H' with ⟨H1, H2⟩
  isplitl [H1]
  · iexists f
    isplitr; · ipureintro; exact hf
    iexact H1
  · iexists f
    isplitr; · ipureintro; exact hf
    iexact H2

theorem row_join (A : Memref sig c.2.kind sp Arr e) (r : Fin 256) (q : PosShare TreeShare) (g : ℕ → Elt F e) :
    iprop(Row c A r q.left g ∗ Row c A r q.right g) ⊢ (Row c A r q g : sProp 𝕄) := by
  unfold Row
  iintro ⟨⟨%f, %hf, H1⟩, ⟨%f', %hf', H2⟩⟩
  ihave %h := pointsTo_agree $$ [H1 H2]
  · isplitl [H1]; · iexact H1
    iexact H2
  rw [Finset.inter_self] at h
  ihave H2 := (Entails.of_eq (pointsTo_congr fun i hi => (h i hi).1.symm)) $$ H2
  iexists f
  isplitr; · ipureintro; exact hf
  iapply (pointsTo_share (PosShare.mem_left_op_right q)).2
  isplitl [H1]; · iexact H1
  iexact H2

theorem win_subset {κ : Kind} (A : Memref sig κ sp Arr e) (n : ℕ) (off : Fin 2 → ℕ) (inb : ∀ a, off a + (Band n).size a ≤ Arr.size a)
    (hq : (Band n).Squeezes (Win n)) (r : Fin 256) (w : ℕ) (hoff : off = ![r.val, w]) (hw : w + n ≤ 65536) :
    (win A n off inb hq).view.set ⊆ rowSet A r := by
  intro i hi
  obtain ⟨x, -, rfl⟩ := Finset.mem_map.mp hi
  have h : (win A n off inb hq).view.emb x = A.view.emb (cell r (w + (x 0).val)) :=
    congrArg A.view.emb (win_coord n off inb hq.numel_eq r w hoff hw x)
  rw [h]
  refine A.view.mem_setOn.mpr ?_
  rw [Finset.mem_filter]
  exact ⟨Finset.mem_univ _, cell_zero r _⟩

theorem win_read {κ : Kind} (A : Memref sig κ sp Arr e) (n : ℕ) (off : Fin 2 → ℕ) (inb : ∀ a, off a + (Band n).size a ≤ Arr.size a)
    (hq : (Band n).Squeezes (Win n)) (r : Fin 256) (w : ℕ) (hoff : off = ![r.val, w]) (hw : w + n ≤ 65536)
    (f : A.view.ty.Contents (Elt F)) (x : (Win n).Idx) :
    (win A n off inb hq).view.read (Elt F) f x = A.view.read (Elt F) f (cell r (w + (x 0).val)) :=
  congrArg (A.view.read (Elt F) f) (win_coord n off inb hq.numel_eq r w hoff hw x)

/-- The copy of a window of a row into a buffer, issued: in flight, delivering the buffer reading the window and the
    row's share back. -/
theorem win_enqueue [Infinite Name] [EC.LandsIn (upEmb : UEmb _ 𝕄)] (ι : Ix) {n : ℕ} (hn : 0 < n)
    {A : Memref sig c.2.kind sp Arr e} {cs : CoreSpace} {b : Memref sig c.2.kind cs (Win n) e} {sem : DmaSem sig}
    {off : Fin 2 → ℕ} {inb : ∀ a, off a + (Band n).size a ≤ Arr.size a} {hq : (Band n).Squeezes (Win n)}
    {hsrc : (win A n off inb hq).view.WordExact} {hdst : (DmaTarget.here (nD := nD) (τ := τ) (p := c.2) b).view.WordExact}
    {hsem : DmaTarget.Typed (nD := nD) sp (.dma sem) (.here b)}
    {k : PUnit → Prog (TpuEff nD τ sig (Elt F) Λ c.2) α} (r : Fin 256) (w : ℕ) (hoff : off = ![r.val, w]) (hw : w + n ≤ 65536)
    {q : PosShare TreeShare} {g0 : (Win n).Idx → Elt F e} (g : ℕ → Elt F e) :
    iprop(At c b fullShare g0 ∗ Row c A r q g ∗ semVal (c, .dma sem) 0)
      ⊢ iprop((Flight EC c (.dma sem) ι b.view.dmaCredit iprop(At c b fullShare (fun x => g (w + (x 0).val)) ∗ Row c A r q g)
            -∗ wp frame (wpE defs 𝒱 c bd) Set.univ (k ⟨⟩) Q)
          -∗ wp frame (wpE defs 𝒱 c bd) Set.univ (.op (.enqueueDma (win A n off inb hq) (.here b) (.dma sem) hsrc hdst hsem) k) Q) := by
  have hsub := win_subset A n off inb hq r w hoff hw
  unfold At Row
  iintro ⟨⟨%f0, -, Hb⟩, ⟨%f, %hf, HA⟩, Hv⟩ Hk
  ihave HA' := (pointsTo_split_subset hsub).1 $$ HA
  icases HA' with ⟨Hs, Hr⟩
  iapply (wp_dmaLocal EC 𝒱 c bd (src := win A n off inb hq) (via := .same) (dst := b) (sm := .dma sem) ι b.view.dmaCredit rfl
    (b.view.dmaCredit_pos (by show 0 < (Win n).numel; simp [Shape.numel]; exact hn)) subset_rfl) $$ [Hs Hb Hv]
  · isplitl [Hs]; · iexact Hs
    isplitl [Hb]; · iexact Hb
    iexact Hv
  iintro HF
  iapply Hk
  ihave HF' := (flight_frame c EC) $$ [HF Hr]
  · isplitl [HF]; · iexact HF
    iexact Hr
  iapply (Flight_mono EC c ?_) $$ HF'
  iintro ⟨⟨Hb, Hs⟩, Hr⟩
  isplitl [Hb]
  · iexists _
    isplitr [Hb]
    rotate_left
    · iexact Hb
    · ipureintro
      funext x
      have hx : (x 0).val < n := (x 0).isLt
      refine (congrFun (View.read_write_univ (v := b.view) f0 _) x).trans ?_
      refine (win_read A n off inb hq r w hoff hw f x).trans (hf _ (by omega))
  · iexists f
    isplitr; · ipureintro; exact hf
    iapply (pointsTo_split_subset hsub).2
    isplitl [Hs]; · iexact Hs
    iexact Hr

/-- The copy of a buffer onto a whole row, issued: in flight, delivering the row reading the buffer and the buffer back. -/
theorem row_enqueue [Infinite Name] [EC.LandsIn (upEmb : UEmb _ 𝕄)] (ι : Ix)
    {A : Memref sig c.2.kind sp Arr e} {sp' : Space} {b : Memref sig c.2.kind sp' (Win 65536) e} {sem : DmaSem sig}
    {off : Fin 2 → ℕ} {inb : ∀ a, off a + (Band 65536).size a ≤ Arr.size a} {hq : (Band 65536).Squeezes (Win 65536)}
    {hsrc : b.view.WordExact} {hdst : (DmaTarget.here (nD := nD) (τ := τ) (p := c.2) (win A 65536 off inb hq)).view.WordExact}
    {hsem : DmaTarget.Typed (nD := nD) sp' (.dma sem) (.here (win A 65536 off inb hq))}
    {k : PUnit → Prog (TpuEff nD τ sig (Elt F) Λ c.2) α} (r : Fin 256) (hoff : off = ![r.val, 0])
    {q : PosShare TreeShare} {g : (Win 65536).Idx → Elt F e} {g0 : ℕ → Elt F e} (g' : ℕ → Elt F e) (hg : ∀ x, g x = g' (x 0).val) :
    iprop(At c b q g ∗ Row c A r fullShare g0 ∗ semVal (c, .dma sem) 0)
      ⊢ iprop((Flight EC c (.dma sem) ι (win A 65536 off inb hq).view.dmaCredit iprop(At c b q g ∗ Row c A r fullShare g')
            -∗ wp frame (wpE defs 𝒱 c bd) Set.univ (k ⟨⟩) Q)
          -∗ wp frame (wpE defs 𝒱 c bd) Set.univ (.op (.enqueueDma b (.here (win A 65536 off inb hq)) (.dma sem) hsrc hdst hsem) k) Q) := by
  have hsub := win_subset A 65536 off inb hq r 0 hoff (by omega)
  unfold At Row
  iintro ⟨⟨%f, %hf, Hb⟩, ⟨%f0, -, HA⟩, Hv⟩ Hk
  iapply (wp_dmaLocal EC 𝒱 c bd (src := b) (via := .same) (dst := win A 65536 off inb hq) (sm := .dma sem) ι
    (win A 65536 off inb hq).view.dmaCredit rfl
    ((win A 65536 off inb hq).view.dmaCredit_pos (by show 0 < (Win 65536).numel; simp [Shape.numel])) hsub) $$ [HA Hb Hv]
  · isplitl [Hb]; · iexact Hb
    isplitl [HA]; · iexact HA
    iexact Hv
  iintro HF
  iapply Hk
  iapply (Flight_mono EC c ?_) $$ HF
  iintro ⟨HA, Hb⟩
  isplitl [Hb]
  · iexists f
    isplitr; · ipureintro; exact hf
    iexact Hb
  · iexists _
    isplitr [HA]
    rotate_left
    · iexact HA
    · ipureintro
      intro j hj
      have hr := win_read A 65536 off inb hq r 0 hoff (by omega)
        ((win A 65536 off inb hq).view.write (Elt F) f0 (b.view.read (Elt F) f) Finset.univ) (Shape.ofLane (d := ![65536]) ⟨j, hj⟩)
      rw [Nat.zero_add] at hr
      change _ = A.view.read (Elt F) _ (cell r j) at hr
      refine hr.symm.trans ((congrFun (View.read_write_univ (v := (win A 65536 off inb hq).view) f0 _) _).trans ?_)
      rw [hf]; exact hg _

end Cert.Cells
-- ==== Proof.Radix.lean ====
/-
  The arithmetic of a least-significant-digit radix sort over 32-bit words, free of any machine: the place a counting
  sort gives each element of a stream (`pos`), that the places are a bijection of the stream's positions and order it by
  the digit, ties kept in the order they came; that a stream rearranged by those places (`Pass`) keeps every count, and,
  if it was ordered by its value modulo `m` before, is ordered by its value modulo `m · r` after a pass on the digit
  `value / m % r`; and that three such passes leave an ordered rearrangement.
-/
module

public import Mathlib.Data.List.Sort
public import Mathlib.Data.Finset.Card
public import Mathlib.Data.Finset.Basic
public import Mathlib.Data.Fintype.Card
public import Mathlib.Order.Interval.Finset.Nat
public import Mathlib.Data.BitVec
public import Mathlib.Algebra.BigOperators.Group.Finset.Basic

@[expose] public section

namespace Cert.Radix

section Count

variable (dg : BitVec 32 → ℕ) (N : ℕ) (K : ℕ → BitVec 32)

/-- How many of the first `n` elements have digit `d`. -/
def cnt (n d : ℕ) : ℕ := ((Finset.range n).filter fun i => dg (K i) = d).card

/-- How many of all `N` elements have a digit below `d`. -/
def pre (d : ℕ) : ℕ := ((Finset.range N).filter fun i => dg (K i) < d).card

/-- The place of element `i`: after every smaller digit, and after its own digit's earlier elements. -/
def pos (i : ℕ) : ℕ := pre dg N K (dg (K i)) + cnt dg K i (dg (K i))

/-- Element `j` goes before element `i`: a smaller digit, or the same one and earlier. -/
def Before (j i : ℕ) : Prop := dg (K j) < dg (K i) ∨ (dg (K j) = dg (K i) ∧ j < i)

instance (j i : ℕ) : Decidable (Before dg K j i) := by unfold Before; infer_instance

theorem cnt_zero (d : ℕ) : cnt dg K 0 d = 0 := by simp [cnt]

theorem cnt_le (n d : ℕ) : cnt dg K n d ≤ n := by
  unfold cnt
  exact (Finset.card_filter_le _ _).trans (by simp)

theorem pre_zero : pre dg N K 0 = 0 := by simp [pre]

/-- The counts below `d + 1` are those below `d` and those at `d`. -/
theorem pre_succ (d : ℕ) : pre dg N K (d + 1) = pre dg N K d + cnt dg K N d := by
  unfold pre cnt
  rw [← Finset.card_union_of_disjoint]
  · congr 1
    ext i
    simp only [Finset.mem_filter, Finset.mem_union, Finset.mem_range]
    omega
  · rw [Finset.disjoint_left]
    intro i hi hj
    simp only [Finset.mem_filter] at hi hj
    omega

theorem pre_le (d : ℕ) : pre dg N K d ≤ N := by
  unfold pre
  exact (Finset.card_filter_le _ _).trans (by simp)

/-- A range of counts summed is a difference of prefixes. -/
theorem pre_add (a : ℕ) (n : ℕ) : pre dg N K (a + n) = pre dg N K a + ∑ x ∈ Finset.range n, cnt dg K N (a + x) := by
  induction n with
  | zero => simp
  | succ n ih => rw [Finset.sum_range_succ, ← Nat.add_assoc a n 1, pre_succ, ih, Nat.add_assoc]

/-- The place of `i` counts the elements that go before it. -/
theorem pos_eq_card {i : ℕ} (hi : i < N) : pos dg N K i = ((Finset.range N).filter fun j => Before dg K j i).card := by
  unfold pos pre cnt
  rw [← Finset.card_union_of_disjoint]
  · congr 1
    ext j
    rw [Finset.mem_union, Finset.mem_filter, Finset.mem_filter, Finset.mem_filter, Finset.mem_range, Finset.mem_range]
    unfold Before
    omega
  · rw [Finset.disjoint_left]
    intro j hj hj'
    simp only [Finset.mem_filter] at hj hj'
    omega

theorem pos_lt {i : ℕ} (hi : i < N) : pos dg N K i < N := by
  rw [pos_eq_card dg N K hi]
  have h : ((Finset.range N).filter fun j => Before dg K j i) ⊂ Finset.range N := by
    refine (Finset.ssubset_iff_of_subset (Finset.filter_subset _ _)).mpr ⟨i, Finset.mem_range.mpr hi, ?_⟩
    rw [Finset.mem_filter]; unfold Before; omega
  simpa using Finset.card_lt_card h

theorem pos_lt_pos {i j : ℕ} (hi : i < N) (hj : j < N) (h : Before dg K i j) : pos dg N K i < pos dg N K j := by
  rw [pos_eq_card dg N K hi, pos_eq_card dg N K hj]
  apply Finset.card_lt_card
  refine (Finset.ssubset_iff_of_subset ?_).mpr ⟨i, ?_, ?_⟩
  · intro k hk
    rw [Finset.mem_filter] at hk ⊢
    refine ⟨hk.1, ?_⟩
    have hk := hk.2
    unfold Before at hk h ⊢
    omega
  · rw [Finset.mem_filter, Finset.mem_range]; exact ⟨hi, h⟩
  · rw [Finset.mem_filter]; unfold Before; omega

theorem before_of_pos_lt {i j : ℕ} (hi : i < N) (hj : j < N) (h : pos dg N K i < pos dg N K j) : Before dg K i j := by
  by_contra hn
  by_cases he : i = j
  · subst he; omega
  · have hb : Before dg K j i := by unfold Before at hn ⊢; omega
    have := pos_lt_pos dg N K hj hi hb
    omega

theorem pos_inj {i j : ℕ} (hi : i < N) (hj : j < N) (h : pos dg N K i = pos dg N K j) : i = j := by
  by_contra hne
  have hb : Before dg K i j ∨ Before dg K j i := by unfold Before; omega
  rcases hb with hb | hb
  · have := pos_lt_pos dg N K hi hj hb; omega
  · have := pos_lt_pos dg N K hj hi hb; omega

/-- Every place is taken. -/
theorem pos_surj {p : ℕ} (hp : p < N) : ∃ i, i < N ∧ pos dg N K i = p := by
  have himg : (Finset.range N).image (pos dg N K) = Finset.range N := by
    apply Finset.eq_of_subset_of_card_le
    · intro q hq
      obtain ⟨i, hi, rfl⟩ := Finset.mem_image.mp hq
      exact Finset.mem_range.mpr (pos_lt dg N K (Finset.mem_range.mp hi))
    · rw [Finset.card_image_of_injOn]
      intro i hi j hj h
      exact pos_inj dg N K (Finset.mem_range.mp hi) (Finset.mem_range.mp hj) h
  have : p ∈ (Finset.range N).image (pos dg N K) := by rw [himg]; exact Finset.mem_range.mpr hp
  obtain ⟨i, hi, h⟩ := Finset.mem_image.mp this
  exact ⟨i, Finset.mem_range.mp hi, h⟩

/-- One pass: `K'` holds each element of `K` at its place. -/
def Pass (K' : ℕ → BitVec 32) : Prop := ∀ i, i < N → K' (pos dg N K i) = K i

end Count

variable {dg : BitVec 32 → ℕ} {N : ℕ} {K K' : ℕ → BitVec 32}

/-- A pass rearranges: the two streams are one multiset. -/
theorem Pass.multiset (h : Pass dg N K K') : (Multiset.range N).map K' = (Multiset.range N).map K := by
  have hb : (Multiset.range N).map (pos dg N K) = Multiset.range N := by
    have himg : (Finset.range N).image (pos dg N K) = Finset.range N := by
      ext p
      simp only [Finset.mem_image, Finset.mem_range]
      constructor
      · rintro ⟨i, hi, rfl⟩; exact pos_lt dg N K hi
      · exact pos_surj dg N K
    have hinj : Set.InjOn (pos dg N K) (Finset.range N) := fun i hi j hj h =>
      pos_inj dg N K (Finset.mem_range.mp hi) (Finset.mem_range.mp hj) h
    have := congrArg Finset.val himg
    rw [Finset.image_val_of_injOn hinj] at this
    exact this
  rw [← hb, Multiset.map_map, hb]
  apply Multiset.map_congr rfl
  intro i hi
  exact h i (Multiset.mem_range.mp hi)

theorem cnt_eq_countP (dg : BitVec 32 → ℕ) (N : ℕ) (K : ℕ → BitVec 32) (d : ℕ) :
    cnt dg K N d = ((Multiset.range N).map K).countP (fun k => dg k = d) := by
  rw [Multiset.countP_map]; rfl

theorem pre_eq_countP (dg : BitVec 32 → ℕ) (N : ℕ) (K : ℕ → BitVec 32) (d : ℕ) :
    pre dg N K d = ((Multiset.range N).map K).countP (fun k => dg k < d) := by
  rw [Multiset.countP_map]; rfl

/-- Streams that are one multiset have the same prefix table, of any digit. -/
theorem pre_congr (dg : BitVec 32 → ℕ) (h : (Multiset.range N).map K' = (Multiset.range N).map K) (d : ℕ) :
    pre dg N K' d = pre dg N K d := by
  rw [pre_eq_countP, pre_eq_countP, h]

/-- Ordered by value modulo `m`. -/
def SortedMod (m : ℕ) (N : ℕ) (K : ℕ → BitVec 32) : Prop := ∀ i j, i < j → j < N → (K i).toNat % m ≤ (K j).toNat % m

theorem sortedMod_one : SortedMod 1 N K := fun _ _ _ _ => by simp [Nat.mod_one]

/-- A pass on the next digit carries the order from `m` to `m · r`. -/
theorem Pass.sortedMod {m r : ℕ} (hm : 0 < m) (hdg : ∀ k, dg k = k.toNat / m % r) (hs : SortedMod m N K)
    (h : Pass dg N K K') : SortedMod (m * r) N K' := by
  intro a b hab hb
  obtain ⟨i, hi, rfl⟩ := pos_surj dg N K (hab.trans hb)
  obtain ⟨j, hj, rfl⟩ := pos_surj dg N K hb
  rw [h i hi, h j hj, Nat.mod_mul, Nat.mod_mul, ← hdg, ← hdg]
  rcases before_of_pos_lt dg N K hi hj hab with hlt | ⟨he, hlt⟩
  · have h1 : (K i).toNat % m < m := Nat.mod_lt _ hm
    have h2 : m * (dg (K i) + 1) ≤ m * dg (K j) := Nat.mul_le_mul_left m hlt
    rw [Nat.mul_add, Nat.mul_one] at h2
    omega
  · rw [he]
    exact Nat.add_le_add_right (hs i j hlt hj) _

/-- Ordered modulo the word's range is ordered. -/
theorem SortedMod.le (hs : SortedMod (2 ^ 32) N K) {i j : ℕ} (hij : i ≤ j) (hj : j < N) : K i ≤ K j := by
  rcases Nat.eq_or_lt_of_le hij with rfl | hij
  · exact BitVec.le_refl _
  · have := hs i j hij hj
    rw [Nat.mod_eq_of_lt (K i).isLt, Nat.mod_eq_of_lt (K j).isLt] at this
    exact BitVec.le_def.mpr this

/-- The three digits of the kernel's passes. -/
def dgA (k : BitVec 32) : ℕ := k.toNat % 2048
def dgB (k : BitVec 32) : ℕ := k.toNat / 2048 % 2048
def dgC (k : BitVec 32) : ℕ := k.toNat / 4194304 % 1024

/-- Three passes: an ordered rearrangement. -/
theorem three_passes {K₀ K₁ K₂ K₃ : ℕ → BitVec 32} (hA : Pass dgA N K₀ K₁) (hB : Pass dgB N K₁ K₂) (hC : Pass dgC N K₂ K₃) :
    (Multiset.range N).map K₃ = (Multiset.range N).map K₀ ∧ ∀ i j, i ≤ j → j < N → K₃ i ≤ K₃ j := by
  refine ⟨hC.multiset.trans (hB.multiset.trans hA.multiset), ?_⟩
  have h1 : SortedMod 2048 N K₁ := by
    have := hA.sortedMod (m := 1) (r := 2048) Nat.one_pos (fun k => by simp [dgA]) sortedMod_one
    simpa using this
  have h2 : SortedMod 4194304 N K₂ := by
    have := hB.sortedMod (m := 2048) (r := 2048) (by decide) (fun k => rfl) h1
    simpa using this
  have h3 : SortedMod (2 ^ 32) N K₃ := by
    have := hC.sortedMod (m := 4194304) (r := 1024) (by decide) (fun k => rfl) h2
    simpa using this
  intro i j hij hj
  exact h3.le hij hj

end Cert.Radix
-- ==== Proof.Lanes.lean ====
/-
  What the sixteen-lane indexed operations do to the tables of a radix sort: a scatter-add of ones, or of
  the running counts at each value's last lane, adds to every bin the number of lanes that name it; a scatter at pairwise
  distinct indices writes each lane's value at its index; a lane scan of counts is their prefix sum; and a bin's running
  total plus a lane's running count is the place a counting sort gives that lane.
-/
module

public import Idealize.ShloMosaic.PureOps
public import proofs.«01_k».proof.Proof.Radix
public import Mathlib.Algebra.BigOperators.Fin
public import Mathlib.Algebra.BigOperators.Group.List.Basic
public import Mathlib.Tactic.Ring
public import Mathlib.Tactic.Abel

@[expose] public section

noncomputable section

namespace Cert.Lanes

open Idealize.ShloMosaic Cert.Radix

variable {F : FTy → Type} [BitOps F]

/-- Sixteen lanes; a table of `B` words. -/
abbrev L16 : Shape := ⟨1, ![16]⟩
abbrev Tbl (B : ℕ) : Shape := ⟨1, ![B]⟩

/-- Lane `k`. -/
def ln (k : Fin 16) : L16.Idx := Shape.ofLane (d := ![16]) k

theorem eq_ln (x : L16.Idx) : x = ln (x 0) := by
  funext a
  obtain rfl : a = 0 := Fin.eq_zero a
  rfl

theorem ln_zero (k : Fin 16) : (ln k 0).val = k.val := rfl

theorem ln_inj {y k : Fin 16} (h : ln y = ln k) : y = k :=
  Fin.ext (congrArg (fun z : L16.Idx => (z 0).val) h)

/-- How many of the sixteen lanes name bin `d`. -/
def lanes (ix : IVec L16 32) (d : ℕ) : ℕ := (Finset.univ.filter fun k : Fin 16 => (ix (ln k)).toNat = d).card

variable {B : ℕ} {ix : IVec L16 32}

theorem idxAt_zero (h : ∀ a x, ((![ix] : Fin 1 → IVec L16 32) a x).toNat < (Tbl B).size a) (x : L16.Idx) (j : (Tbl B).Idx) :
    (∀ a, (j a).val = (idxAt (s := Tbl B) ![ix] h x a).val) ↔ (ix x).toNat = (j 0).val := by
  constructor
  · intro ha; exact (ha 0).symm
  · intro hj a
    obtain rfl : a = 0 := Fin.eq_zero a
    exact hj.symm

theorem ofNat_cast (n : ℕ) : BitVec.ofNat 32 n = ((n : ℕ) : BitVec 32) := rfl

/-- One lane's store. -/
def step (ix : IVec L16 32) (v : IVec L16 32) (mask : IVec L16 1) (add : Bool) (g : (Tbl B).Idx → BitVec 32) (k : Fin 16) :
    (Tbl B).Idx → BitVec 32 :=
  fun j => if mask (ln k) = 1 ∧ (ix (ln k)).toNat = (j 0).val then (if add then g j + v (ln k) else v (ln k)) else g j

theorem storeIdx_eq (f : Vec F (Tbl B) .i32) (v : Vec F L16 .i32) (mask : IVec L16 1) (add : Bool)
    (h : ∀ a x, ((![ix] : Fin 1 → IVec L16 32) a x).toNat < (Tbl B).size a) :
    storeIdx f ![ix] v mask add h = (List.finRange 16).foldl (step ix v mask add) f := by
  unfold storeIdx
  refine congrArg (fun st => List.foldl st f (List.finRange 16)) ?_
  funext g k j
  show (if mask (ln k) = 1 then _ else g) j = step ix v mask add g k j
  unfold step
  by_cases hm : mask (ln k) = 1
  · rw [if_pos hm]
    by_cases hj : (ix (ln k)).toNat = (j 0).val
    · have ha := (idxAt_zero h (ln k) j).mpr hj
      refine (if_pos ha).trans (Eq.trans ?_ (if_pos ⟨hm, hj⟩).symm)
      cases add with
      | false => rfl
      | true =>
        have hi : idxAt (s := Tbl B) ![ix] h (ln k) = j := by
          funext a; exact Fin.ext (ha a).symm
        show Elt.idxAdd .i32 (g (idxAt (s := Tbl B) ![ix] h (ln k))) (v (ln k)) = _
        rw [hi]; rfl
    · exact (if_neg fun ha => hj ((idxAt_zero h (ln k) j).mp ha)).trans (if_neg fun hc => hj hc.2).symm
  · rw [if_neg hm, if_neg fun hc => hm hc.1]

/-! ## The scatter that adds -/

theorem storeIdx_add_apply (f : Vec F (Tbl B) .i32) (v : Vec F L16 .i32) (mask : IVec L16 1)
    (h : ∀ a x, ((![ix] : Fin 1 → IVec L16 32) a x).toNat < (Tbl B).size a) (j : (Tbl B).Idx) :
    storeIdx f ![ix] v mask true h j
      = (f j : BitVec 32) + ∑ k : Fin 16, if mask (ln k) = 1 ∧ (ix (ln k)).toNat = (j 0).val then (v (ln k) : BitVec 32) else 0 := by
  rw [storeIdx_eq, Fin.sum_univ_def]
  generalize List.finRange 16 = l
  induction l generalizing f with
  | nil => simp
  | cons k l ih =>
    rw [List.foldl_cons, ih, List.map_cons, List.sum_cons, ← add_assoc]
    congr 1
    unfold step
    split
    · rfl
    · rw [add_zero]

/-- Adding ones in every lane adds the number of lanes. -/
theorem storeIdx_ones (f : Vec F (Tbl B) .i32) (v : Vec F L16 .i32) (mask : IVec L16 1) (hv : ∀ x, v x = (1#32 : BitVec 32)) (hm : ∀ x, mask x = 1)
    (h : ∀ a x, ((![ix] : Fin 1 → IVec L16 32) a x).toNat < (Tbl B).size a) (j : (Tbl B).Idx) :
    storeIdx f ![ix] v mask true h j = (f j : BitVec 32) + BitVec.ofNat 32 (lanes ix (j 0).val) := by
  rw [storeIdx_add_apply]
  refine congrArg (fun z => (f j : BitVec 32) + z) ?_
  simp only [hv, hm, true_and]
  rw [ofNat_cast]
  exact Finset.sum_boole (fun k : Fin 16 => (ix (ln k)).toNat = (j 0).val) Finset.univ

theorem scanCount_snd (m : IVec L16 1) (hm : ∀ x, m x = 1) (k : Fin 16) :
    (scanCount m ix).2 (ln k) = BitVec.ofNat 32 (Finset.univ.filter fun y : Fin 16 => y ≤ k ∧ ix (ln y) = ix (ln k)).card := by
  unfold scanCount
  simp only [hm, if_true, true_and]
  congr 1
  symm
  apply Finset.card_bij (fun y _ => ln y)
  · intro y hy
    rw [Finset.mem_filter] at hy ⊢
    refine ⟨Finset.mem_univ _, ?_, hy.2.2⟩
    rw [Shape.rowMajor_val_one, Shape.rowMajor_val_one, ln_zero, ln_zero]
    exact hy.2.1
  · intro y _ y' _ hyy
    exact ln_inj hyy
  · intro z hz
    rw [Finset.mem_filter] at hz
    refine ⟨z 0, Finset.mem_filter.mpr ⟨Finset.mem_univ _, ?_, ?_⟩, (eq_ln z).symm⟩
    rotate_left
    · rw [← eq_ln z]; exact hz.2.2
    have := hz.2.1
    rw [Shape.rowMajor_val_one, Shape.rowMajor_val_one, ln_zero] at this
    exact this

theorem scanCount_fst (m : IVec L16 1) (hm : ∀ x, m x = 1) (k : Fin 16) :
    (scanCount m ix).1 (ln k) = 1 ↔ ∀ y : Fin 16, k < y → ix (ln y) ≠ ix (ln k) := by
  unfold scanCount
  simp only [hm, true_and]
  constructor
  · intro h y hky he
    rw [if_neg] at h
    · exact absurd h (by decide)
    · intro hall
      refine hall (ln y) ?_ he
      rw [Shape.rowMajor_val_one, Shape.rowMajor_val_one, ln_zero, ln_zero]
      exact hky
  · intro h
    rw [if_pos]
    intro z hz he
    rw [Shape.rowMajor_val_one, Shape.rowMajor_val_one, ln_zero] at hz
    refine h (z 0) hz ?_
    rw [← eq_ln z]; exact he

/-- Adding each value's count at its last lane adds the number of lanes too. -/
theorem storeIdx_counts (f : Vec F (Tbl B) .i32) (m : IVec L16 1) (hm : ∀ x, m x = 1)
    (h : ∀ a x, ((![ix] : Fin 1 → IVec L16 32) a x).toNat < (Tbl B).size a) (j : (Tbl B).Idx) :
    storeIdx f ![ix] (scanCount m ix).2 (scanCount m ix).1 true h j = (f j : BitVec 32) + BitVec.ofNat 32 (lanes ix (j 0).val) := by
  rw [storeIdx_add_apply]
  refine congrArg (fun z => (f j : BitVec 32) + z) ?_
  unfold lanes
  generalize hA : (Finset.univ.filter fun k : Fin 16 => (ix (ln k)).toNat = (j 0).val) = A
  have hmem : ∀ k, k ∈ A ↔ (ix (ln k)).toNat = (j 0).val := fun k => by rw [← hA]; simp
  rcases A.eq_empty_or_nonempty with rfl | hne
  · rw [Finset.sum_eq_zero]; · rfl
    intro k _
    rw [if_neg]
    rintro ⟨-, hk⟩
    exact absurd ((hmem k).mpr hk) (Finset.notMem_empty _)
  · have hmax := A.max'_mem hne
    generalize hk₀ : A.max' hne = k₀ at hmax
    have hle : ∀ y, y ∈ A → y ≤ k₀ := fun y hy => hk₀ ▸ A.le_max' y hy
    have hval : ∀ y, y ∈ A ↔ ix (ln y) = ix (ln k₀) := fun y => by
      rw [hmem, ← (hmem k₀).mp hmax, BitVec.toNat_inj]
    rw [Finset.sum_eq_single k₀]
    · rw [if_pos ⟨(scanCount_fst m hm k₀).mpr fun y hy he => absurd (hle y ((hval y).mpr he)) (not_le.mpr hy), (hmem k₀).mp hmax⟩]
      rw [scanCount_snd m hm]
      congr 2
      ext y
      rw [hval, Finset.mem_filter, ← hval]
      exact ⟨fun h => h.2.2, fun h => ⟨Finset.mem_univ _, hle y h, h⟩⟩
    · intro y _ hne'
      rw [if_neg]
      rintro ⟨hlast, hy⟩
      have hyA := (hmem y).mpr hy
      have hlt : y < k₀ := lt_of_le_of_ne (hle y hyA) hne'
      exact (scanCount_fst m hm y).mp hlast k₀ hlt ((hval y).mp hyA).symm
    · intro hk; exact absurd (Finset.mem_univ _) hk

/-! ## The scatter that overwrites -/

theorem foldl_step_miss (f : (Tbl B).Idx → BitVec 32) (v : IVec L16 32) (mask : IVec L16 1) (j : (Tbl B).Idx) (l : List (Fin 16))
    (hl : ∀ k ∈ l, (ix (ln k)).toNat ≠ (j 0).val) : l.foldl (step ix v mask false) f j = f j := by
  induction l generalizing f with
  | nil => rfl
  | cons k l ih =>
    rw [List.foldl_cons, ih _ fun k' hk' => hl k' (List.mem_cons_of_mem _ hk')]
    unfold step
    rw [if_neg fun hc => hl k List.mem_cons_self hc.2]

theorem storeIdx_miss (f : Vec F (Tbl B) .i32) (v : Vec F L16 .i32) (mask : IVec L16 1)
    (h : ∀ a x, ((![ix] : Fin 1 → IVec L16 32) a x).toNat < (Tbl B).size a) (j : (Tbl B).Idx)
    (hl : ∀ k : Fin 16, (ix (ln k)).toNat ≠ (j 0).val) :
    storeIdx f ![ix] v mask false h j = f j := by
  rw [storeIdx_eq]
  exact foldl_step_miss f v mask j _ fun k _ => hl k

theorem storeIdx_hit (f : Vec F (Tbl B) .i32) (v : Vec F L16 .i32) (mask : IVec L16 1) (hm : ∀ x, mask x = 1)
    (h : ∀ a x, ((![ix] : Fin 1 → IVec L16 32) a x).toNat < (Tbl B).size a) (j : (Tbl B).Idx) (k : Fin 16)
    (hk : (ix (ln k)).toNat = (j 0).val) (huniq : ∀ y : Fin 16, (ix (ln y)).toNat = (j 0).val → y = k) :
    storeIdx f ![ix] v mask false h j = v (ln k) := by
  rw [storeIdx_eq]
  have hmem : k ∈ List.finRange 16 := List.mem_finRange k
  revert hmem
  generalize List.finRange 16 = l
  intro hmem
  induction l generalizing f with
  | nil => simp at hmem
  | cons a l ih =>
    rw [List.foldl_cons]
    by_cases hin : k ∈ l
    · exact ih _ hin
    · obtain rfl : k = a := by
        rcases List.mem_cons.mp hmem with h | h
        · exact h
        · exact absurd h hin
      rw [foldl_step_miss _ v mask j l fun y hy he => hin (huniq y he ▸ hy)]
      unfold step
      rw [if_pos ⟨hm _, hk⟩]
      rfl

/-! ## The lane scan -/

theorem foldl_filter_add (p : Fin 16 → Bool) (g : Fin 16 → BitVec 32) (l : List (Fin 16)) (r : BitVec 32) :
    (l.filter p).foldl (fun r k => r + g k) r = r + (l.map fun k => if p k then g k else 0).sum := by
  induction l generalizing r with
  | nil => simp
  | cons a l ih =>
    by_cases ha : p a
    · rw [List.filter_cons_of_pos ha, List.foldl_cons, ih, List.map_cons, List.sum_cons, if_pos ha, add_assoc]
    · rw [List.filter_cons_of_neg ha, ih, List.map_cons, List.sum_cons, if_neg ha, zero_add]

theorem scan_eq (v : IVec L16 32) (k : Fin 16) :
    scan .sum v (ln k) = ((List.finRange 16).filter fun y => decide (0 < y.val ∧ y.val ≤ k.val)).foldl (fun r y => r + v (ln y)) (v (ln 0)) := rfl

/-- A scan of counts is their prefix sum. -/
theorem scan_sum (v : IVec L16 32) (c : ℕ → ℕ) (hv : ∀ k : Fin 16, v (ln k) = BitVec.ofNat 32 (c k.val)) (k : Fin 16) :
    scan .sum v (ln k) = BitVec.ofNat 32 (∑ y ∈ Finset.range (k.val + 1), c y) := by
  rw [scan_eq, foldl_filter_add, ← Fin.sum_univ_def]
  rw [Finset.sum_range_succ']
  simp only [hv, ofNat_cast]
  rw [Nat.cast_add, Nat.cast_sum, add_comm]
  refine congrArg (fun z => z + ((c 0 : ℕ) : BitVec 32)) ?_
  rw [Fin.sum_univ_eq_sum_range (fun y => if decide (0 < y ∧ y ≤ k.val) = true then ((c y : ℕ) : BitVec 32) else 0) 16]
  simp only [decide_eq_true_eq]
  rw [← Finset.sum_filter]
  symm
  apply Finset.sum_bij (fun y _ => y + 1)
  · intro y hy
    have := k.isLt
    simp only [Finset.mem_range, Finset.mem_filter] at hy ⊢
    omega
  · intro y _ y' _ h; omega
  · intro z hz
    simp only [Finset.mem_range, Finset.mem_filter] at hz
    exact ⟨z - 1, by simp only [Finset.mem_range]; omega, by omega⟩
  · intro y _; rfl

/-! ## Counts and places, lane by lane -/

variable {dg : BitVec 32 → ℕ} {K : ℕ → BitVec 32} {n : ℕ}

theorem cnt_add (m d : ℕ) :
    cnt dg K (n + m) d = cnt dg K n d + ((Finset.range m).filter fun y => dg (K (n + y)) = d).card := by
  induction m with
  | zero => simp
  | succ m ih =>
    rw [← Nat.add_assoc, Finset.range_add_one, Finset.filter_insert]
    unfold cnt at ih ⊢
    rw [Finset.range_add_one, Finset.filter_insert]
    split
    · rw [Finset.card_insert_of_notMem (by simp), Finset.card_insert_of_notMem (by simp), ih]; omega
    · exact ih

theorem card_fin (p : ℕ → Prop) [DecidablePred p] (m : ℕ) (hm : m ≤ 16) :
    (Finset.univ.filter fun k : Fin 16 => k.val < m ∧ p k.val).card = ((Finset.range m).filter p).card := by
  apply Finset.card_bij (fun k _ => k.val)
  · intro k hk
    rw [Finset.mem_filter] at hk ⊢
    exact ⟨Finset.mem_range.mpr hk.2.1, hk.2.2⟩
  · intro k _ k' _ h; exact Fin.ext h
  · intro y hy
    rw [Finset.mem_filter, Finset.mem_range] at hy
    exact ⟨⟨y, by omega⟩, by rw [Finset.mem_filter]; exact ⟨Finset.mem_univ _, hy⟩, rfl⟩

/-- Sixteen elements' digits in the lanes: the count grows by the lanes that name the bin. -/
theorem cnt_lanes (hix : ∀ k : Fin 16, (ix (ln k)).toNat = dg (K (n + k.val))) (d : ℕ) :
    cnt dg K (n + 16) d = cnt dg K n d + lanes ix d := by
  rw [cnt_add, ← card_fin _ 16 (le_refl _)]
  congr 2
  ext k
  rw [Finset.mem_filter, Finset.mem_filter, hix]
  simp

/-- A bin's running total, as a word, plus a lane's running count less one is the lane's place. -/
theorem place_eq {N : ℕ} (m : IVec L16 1) (hm : ∀ x, m x = 1) (hix : ∀ k : Fin 16, (ix (ln k)).toNat = dg (K (n + k.val))) (k : Fin 16)
    (w : BitVec 32) (hw : w = BitVec.ofNat 32 (pre dg N K (dg (K (n + k.val))) + cnt dg K n (dg (K (n + k.val))))) :
    w + (scanCount m ix).2 (ln k) - 1#32 = BitVec.ofNat 32 (pos dg N K (n + k.val)) := by
  have hc : (Finset.univ.filter fun y : Fin 16 => y ≤ k ∧ ix (ln y) = ix (ln k)).card
      = ((Finset.range k.val).filter fun y => dg (K (n + y)) = dg (K (n + k.val))).card + 1 := by
    rw [← card_fin _ k.val (by omega), ← Finset.card_insert_of_notMem (a := k)]
    · congr 1
      ext y
      rw [Finset.mem_insert, Finset.mem_filter, Finset.mem_filter, ← hix, ← hix, BitVec.toNat_inj]
      constructor
      · rintro ⟨-, h1, h2⟩
        rcases Nat.eq_or_lt_of_le (show y.val ≤ k.val from h1) with h | h
        · exact Or.inl (Fin.ext h)
        · exact Or.inr ⟨Finset.mem_univ _, h, h2⟩
      · rintro (rfl | ⟨-, h1, h2⟩)
        · exact ⟨Finset.mem_univ _, le_refl _, rfl⟩
        · exact ⟨Finset.mem_univ _, le_of_lt (show y < k from h1), h2⟩
    · rw [Finset.mem_filter]; rintro ⟨-, h, -⟩; omega
  rw [scanCount_snd m hm, hc, hw]
  unfold pos
  rw [cnt_add]
  rw [ofNat_cast, ofNat_cast, ofNat_cast, ofNat_cast]
  simp only [Nat.cast_add, Nat.cast_one]
  abel

end Cert.Lanes
-- ==== Proof.Trips.lean ====
/-
  One trip of each loop of a counting pass, over whatever memrefs hold its tables: a trip that clears sixteen bins, one
  that counts sixteen digits, one that turns sixteen counts into the totals before them, and one that sends sixteen keys
  to their places.
-/
module

public import proofs.«01_k».proof.Proof.Cells
public import proofs.«01_k».proof.Proof.Lanes

@[expose] public section

noncomputable section

namespace Cert.Trips

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Cells Cert.Lanes Cert.Radix

variable {nD : Nat} {τ : Topo} {sig : RefSig} {Ix : Type} [DecidableEq Ix]
variable {F : FTy → Type} [BitOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {e : EltTy} {α : Type} {Q : α → sProp (MT nD τ sig Ix (Elt F) Name U Lvl)}
variable {B t : ℕ}

local notation "𝕄" => MT nD τ sig Ix (Elt F) Name U Lvl

/-! ## Sixteen elements of a table -/

theorem exists_ln (x : L16.Idx) : ∃ k : Fin 16, x = ln k := ⟨x 0, eq_ln x⟩

/-- Element `16 t + x` of a table. -/
def ofs (h : 16 * t + 16 ≤ B) (x : L16.Idx) : (Tbl B).Idx :=
  Shape.ofLane (d := ![B]) (⟨16 * t + (x 0).val, by have : (x 0).val < 16 := (x 0).isLt; show _ < B; omega⟩ : Fin B)

theorem ofs_zero (h : 16 * t + 16 ≤ B) (x : L16.Idx) : (ofs h x 0).val = 16 * t + (x 0).val := rfl

theorem tbl_ext {x y : (Tbl B).Idx} (h : (x 0).val = (y 0).val) : x = y := by
  funext a
  obtain rfl : a = 0 := Fin.eq_zero a
  exact Fin.ext h

theorem emb16 (h : 16 * t + 16 ≤ B) {off : Fin 1 → ℕ} {inb : ∀ a, off a + L16.size a ≤ (Tbl B).size a} (hoff : off = ![16 * t])
    (x : L16.Idx) : (Rect.unit (s := Tbl B) off L16.size inb).emb x = ofs h x := by
  subst hoff
  apply tbl_ext
  rw [Rect.emb_apply, ofs_zero]
  show 16 * t + 1 * (x 0).val = _
  omega

theorem at_load16 {m : Memref sig c.2.kind .vmem (Tbl B) e} {off : Fin 1 → ℕ} {inb : ∀ a, off a + L16.size a ≤ (Tbl B).size a}
    {hl : m.view.LoadsAt (Rect.unit (s := Tbl B) off L16.size inb).toLoadRect}
    {k : (L16.Idx → Elt F e) → Prog (TpuEff nD τ sig (Elt F) Λ c.2) α} {q : PosShare TreeShare} {g : (Tbl B).Idx → Elt F e}
    (h : 16 * t + 16 ≤ B) (hoff : off = ![16 * t]) :
    At c m q g
      ⊢ iprop((At c m q g -∗ wp frame (wpE defs 𝒱 c bd) Set.univ (k fun x => g (ofs h x)) Q)
          -∗ wp frame (wpE defs 𝒱 c bd) Set.univ (.op (.load m (Rect.unit (s := Tbl B) off L16.size inb).toLoadRect hl) k) Q) :=
  at_loadTo 𝒱 c bd (m := m) (r := (Rect.unit (s := Tbl B) off L16.size inb).toLoadRect) (hl := hl) (k := k) (fun x => g (ofs h x))
    fun x => congrArg g (emb16 h hoff x).symm

theorem at_store16 {m : Memref sig c.2.kind .vmem (Tbl B) e} {off : Fin 1 → ℕ} {inb : ∀ a, off a + L16.size a ≤ (Tbl B).size a}
    {w : L16.Idx → Elt F e} {hx : (m.access (Rect.unit (s := Tbl B) off L16.size inb)).Stores Finset.univ}
    {hm : (Finset.univ : Finset L16.Idx) = Finset.univ ∨ ∀ a, (Rect.unit (s := Tbl B) off L16.size inb).stride a = 1}
    {k : PUnit → Prog (TpuEff nD τ sig (Elt F) Λ c.2) α} {g : (Tbl B).Idx → Elt F e} (g' : (Tbl B).Idx → Elt F e)
    (h : 16 * t + 16 ≤ B) (hoff : off = ![16 * t]) (hin : ∀ x, g' (ofs h x) = w x)
    (hout : ∀ y, ((y 0).val < 16 * t ∨ 16 * t + 16 ≤ (y 0).val) → g' y = g y) :
    At c m fullShare g
      ⊢ iprop((At c m fullShare g' -∗ wp frame (wpE defs 𝒱 c bd) Set.univ (k ⟨⟩) Q)
          -∗ wp frame (wpE defs 𝒱 c bd) Set.univ (.op (.store m (Rect.unit (s := Tbl B) off L16.size inb) w Finset.univ hx hm) k) Q) :=
  at_store 𝒱 c bd (m := m) (r := Rect.unit (s := Tbl B) off L16.size inb) g' (fun x => (congrArg g' (emb16 h hoff x)).trans (hin x))
    fun y hy => hout y (by
      by_contra hc
      push Not at hc
      refine hy (ln ⟨(y 0).val - 16 * t, by omega⟩) ((emb16 h hoff _).trans (tbl_ext ?_))
      rw [ofs_zero, ln_zero]
      show 16 * t + ((y 0).val - 16 * t) = _
      omega)

/-- A check that holds. -/
theorem at_assume {P : Prop} {d : Decidable P} {k : PLift P → Prog (TpuEff nD τ sig (Elt F) Λ c.2) α} (h : P) :
    wp frame (wpE defs 𝒱 c bd) Set.univ (k ⟨h⟩) Q ⊢ wp frame (wpE defs 𝒱 c bd) Set.univ (.op (.assume P d) k) Q :=
  Entails.of_eq (wp_assume_of 𝒱 c bd Set.univ h).symm

/-! ## Clearing -/

/-- A table cleared below bin `16 t`. -/
def Zd (m : Memref sig c.2.kind .vmem (Tbl B) .i32) (t : ℕ) : sProp 𝕄 :=
  iprop(∃ g, ⌜∀ j, (j 0).val < 16 * t → g j = (0#32 : BitVec 32)⌝ ∗ At c m fullShare g)

theorem zero_trip {m : Memref sig c.2.kind .vmem (Tbl B) .i32} {off : Fin 1 → ℕ} {inb : ∀ a, off a + L16.size a ≤ (Tbl B).size a}
    {hl : m.view.LoadsAt (Rect.unit (s := Tbl B) off L16.size inb).toLoadRect} {w : L16.Idx → Elt F .i32}
    {hx : (m.access (Rect.unit (s := Tbl B) off L16.size inb)).Stores Finset.univ}
    {hm : (Finset.univ : Finset L16.Idx) = Finset.univ ∨ ∀ a, (Rect.unit (s := Tbl B) off L16.size inb).stride a = 1}
    (h : 16 * t + 16 ≤ B) (hoff : off = ![16 * t]) (hw : ∀ x, w x = (0#32 : BitVec 32)) (r : α) :
    (Zd c m t : sProp 𝕄)
      ⊢ wp frame (wpE defs 𝒱 c bd) Set.univ (.op (.load m (Rect.unit (s := Tbl B) off L16.size inb).toLoadRect hl) fun _ =>
          .op (.store m (Rect.unit (s := Tbl B) off L16.size inb) w Finset.univ hx hm) fun _ => .ret r) fun _ => Zd c m (t + 1) := by
  unfold Zd
  iintro ⟨%g, %hg, H⟩
  iapply (at_load16 𝒱 c bd h hoff) $$ H
  iintro H
  iapply (at_store16 𝒱 c bd (fun j => if (j 0).val < 16 * t + 16 then (0#32 : BitVec 32) else g j) h hoff ?_ ?_) $$ H
  · intro x
    have hx : (x 0).val < 16 := (x 0).isLt
    rw [hw]
    refine if_pos ?_
    rw [ofs_zero]; omega
  · intro y hy
    dsimp only
    split
    · rw [hg y (by omega)]
    · rfl
  iintro H
  rw [wp_ret]
  imodintro
  iexists _
  isplitr [H]
  rotate_left
  · iexact H
  · ipureintro
    intro j hj
    exact if_pos (by omega)

/-- A table cleared to its end reads nothing counted. -/
theorem zd_done {m : Memref sig c.2.kind .vmem (Tbl B) .i32} (hB : B ≤ 16 * t) (dg : BitVec 32 → ℕ) (K : ℕ → BitVec 32) :
    (Zd c m t : sProp 𝕄) ⊢ At c m fullShare fun j => BitVec.ofNat 32 (cnt dg K 0 (j 0).val) := by
  unfold Zd
  iintro ⟨%g, %hg, H⟩
  have : g = fun j => BitVec.ofNat 32 (cnt dg K 0 (j 0).val) := by
    funext j
    have hj : (j 0).val < B := (j 0).isLt
    rw [hg j (by omega), cnt_zero]
  rw [← this]
  iexact H

/-! ## Counting -/

/-- What a table of the digits of the first `n` keys holds. -/
def Cn (B : ℕ) (dg : BitVec 32 → ℕ) (K : ℕ → BitVec 32) (n : ℕ) (j : (Tbl B).Idx) : Elt F .i32 := BitVec.ofNat 32 (cnt dg K n (j 0).val)

/-- What it holds once each bin's count is the total before the bin, with the digits of the first `n` keys counted on. -/
def Hn (B : ℕ) (dg : BitVec 32 → ℕ) (N : ℕ) (K : ℕ → BitVec 32) (n : ℕ) (j : (Tbl B).Idx) : Elt F .i32 :=
  BitVec.ofNat 32 (pre dg N K (j 0).val + cnt dg K n (j 0).val)

variable {dg : BitVec 32 → ℕ} {K : ℕ → BitVec 32} {n N : ℕ} {ix : IVec L16 32}

theorem hist_step {m : Memref sig c.2.kind .vmem (Tbl B) .i32} {v : Vec F L16 .i32} {mask : IVec L16 1}
    {h : ∀ a x, ((![ix] : Fin 1 → IVec L16 32) a x).toNat < (Tbl B).size a} {hs : (m.access (.whole (Tbl B))).Stores Finset.univ}
    {k : PUnit → Prog (TpuEff nD τ sig (Elt F) Λ c.2) α} (hv : ∀ x, v x = (1#32 : BitVec 32)) (hm : ∀ x, mask x = 1)
    (hix : ∀ k : Fin 16, (ix (ln k)).toNat = dg (K (n + k.val))) :
    At c m fullShare (Cn B dg K n)
      ⊢ iprop((At c m fullShare (Cn B dg K (n + 16)) -∗ wp frame (wpE defs 𝒱 c bd) Set.univ (k ⟨⟩) Q)
          -∗ wp frame (wpE defs 𝒱 c bd) Set.univ (SparseCore.vectorStoreIdx m ![ix] v mask true h hs >>= k) Q) := by
  have he : storeIdx (Cn B dg K n) ![ix] v mask true h = Cn (F := F) B dg K (n + 16) := by
    funext j
    rw [storeIdx_ones _ _ _ hv hm]
    show BitVec.ofNat 32 _ + _ = BitVec.ofNat 32 _
    rw [cnt_lanes hix, ofNat_cast, ofNat_cast, ofNat_cast, Nat.cast_add]
  rw [← he]
  exact at_storeIdx 𝒱 c bd

/-! ## Totals -/

/-- What a table holds when the counts below bin `16 t` have become totals. -/
def Pf (B : ℕ) (dg : BitVec 32 → ℕ) (N : ℕ) (K : ℕ → BitVec 32) (t : ℕ) (j : (Tbl B).Idx) : Elt F .i32 :=
  BitVec.ofNat 32 (if (j 0).val < 16 * t then pre dg N K (j 0).val else cnt dg K N (j 0).val)

theorem pf_zero : Pf (F := F) B dg N K 0 = Cn B dg K N := by
  funext j
  unfold Pf Cn
  rw [if_neg (by omega)]

theorem pf_done (hB : B ≤ 16 * t) : Pf (F := F) B dg N K t = Hn B dg N K 0 := by
  funext j
  have hj : (j 0).val < B := (j 0).isLt
  unfold Pf Hn
  rw [if_pos (by omega), cnt_zero, Nat.add_zero]

theorem prefix_trip {m : Memref sig c.2.kind .vmem (Tbl B) .i32} {off : Fin 1 → ℕ} {inb : ∀ a, off a + L16.size a ≤ (Tbl B).size a}
    {hl hl' : m.view.LoadsAt (Rect.unit (s := Tbl B) off L16.size inb).toLoadRect}
    {hx : (m.access (Rect.unit (s := Tbl B) off L16.size inb)).Stores Finset.univ}
    {hm : (Finset.univ : Finset L16.Idx) = Finset.univ ∨ ∀ a, (Rect.unit (s := Tbl B) off L16.size inb).stride a = 1}
    {hp : ∀ a, (![15] : Fin 1 → Nat) a < L16.size a} (h : 16 * t + 16 ≤ B) (hoff : off = ![16 * t]) (acc : BitVec 32) :
    iprop(⌜acc = BitVec.ofNat 32 (pre dg N K (16 * t))⌝ ∗ At c m fullShare (Pf B dg N K t))
      ⊢ (wp frame (wpE defs 𝒱 c bd) Set.univ (.op (.load m (Rect.unit (s := Tbl B) off L16.size inb).toLoadRect hl) fun (v : Vec F L16 .i32) =>
          .op (.load m (Rect.unit (s := Tbl B) off L16.size inb).toLoadRect hl') fun _ =>
          .op (.store m (Rect.unit (s := Tbl B) off L16.size inb) (addi (subi (scan .sum (v : IVec L16 32)) v) (broadcast L16 acc)) Finset.univ hx hm) fun _ =>
            .ret (Scalar.addi acc (extractAt ![15] (scan .sum (v : IVec L16 32)) hp)))
          fun acc' => iprop(⌜acc' = BitVec.ofNat 32 (pre dg N K (16 * (t + 1)))⌝ ∗ At c m fullShare (Pf B dg N K (t + 1))) : sProp 𝕄) := by
  iintro ⟨%hacc, H⟩
  have hv : ∀ k : Fin 16, (fun x => Pf (F := F) B dg N K t (ofs h x)) (ln k) = BitVec.ofNat 32 (cnt dg K N (16 * t + k.val)) := by
    intro k
    show BitVec.ofNat 32 (if (ofs h (ln k) 0).val < 16 * t then _ else cnt dg K N (ofs h (ln k) 0).val) = _
    rw [ofs_zero, ln_zero, if_neg (by omega)]
  have hs := scan_sum (fun x => Pf (F := F) B dg N K t (ofs h x)) (fun k => cnt dg K N (16 * t + k)) hv
  iapply (at_load16 𝒱 c bd h hoff) $$ H
  iintro H
  iapply (at_load16 𝒱 c bd h hoff) $$ H
  iintro H
  iapply (at_store16 𝒱 c bd (Pf B dg N K (t + 1)) h hoff ?_ ?_) $$ H
  · intro x
    obtain ⟨k, rfl⟩ := exists_ln x
    show BitVec.ofNat 32 (if (ofs h (ln k) 0).val < 16 * (t + 1) then pre dg N K (ofs h (ln k) 0).val else _)
      = scan .sum (fun x => Pf (F := F) B dg N K t (ofs h x)) (ln k) - (fun x => Pf (F := F) B dg N K t (ofs h x)) (ln k) + acc
    rw [hs, hv, hacc, ofs_zero, ln_zero, if_pos (by omega), pre_add, Finset.sum_range_succ]
    simp only [ofNat_cast, Nat.cast_add]
    abel
  · intro y hy
    have hy' : (y 0).val < 16 * (t + 1) ↔ (y 0).val < 16 * t := by omega
    unfold Pf
    simp only [hy']
  iintro H
  rw [wp_ret]
  imodintro
  isplitr [H]
  rotate_left
  · iexact H
  · ipureintro
    show acc + scan .sum (fun x => Pf (F := F) B dg N K t (ofs h x)) _ = _
    have h15 : (fun a => ⟨(![15] : Fin 1 → Nat) a, hp a⟩ : L16.Idx) = ln 15 := by
      funext a
      obtain rfl : a = 0 := Fin.eq_zero a
      rfl
    refine (congrArg (fun z => acc + scan .sum (fun x => Pf (F := F) B dg N K t (ofs h x)) z) h15).trans ?_
    rw [hs, hacc, show 16 * (t + 1) = 16 * t + 16 by omega, pre_add]
    simp only [ofNat_cast, Nat.cast_add]
    rfl

/-! ## Sending keys to their places -/

/-- The places of the first `n` keys hold them. -/
def Dst (m : Memref sig c.2.kind .vmem (Tbl 65536) .i32) (dg : BitVec 32 → ℕ) (K : ℕ → BitVec 32) (n : ℕ) : sProp 𝕄 :=
  iprop(∃ g : (Tbl 65536).Idx → BitVec 32, ⌜∀ i < n, ∀ j, (j 0).val = pos dg 65536 K i → g j = K i⌝ ∗ At c m fullShare g)

theorem loadIdx_ln {g : (Tbl B).Idx → Elt F e} {h : ∀ a x, ((![ix] : Fin 1 → IVec L16 32) a x).toNat < (Tbl B).size a} (x : L16.Idx) :
    ∃ j : (Tbl B).Idx, (j 0).val = (ix x).toNat ∧ loadIdx g ![ix] h x = g j :=
  ⟨idxAt ![ix] h x, rfl, rfl⟩

/-- The trip from its loaded keys on. `C1` and `C2` are what the program checks of the digits and of the places. -/
theorem permute_trip {hist : Memref sig c.2.kind .vmem (Tbl B) .i32} {dest : Memref sig c.2.kind .vmem (Tbl 65536) .i32}
    {C1 C2 : IVec L16 32 → Prop} {d1 : ∀ v, Decidable (C1 v)} {d2 : ∀ v, Decidable (C2 v)}
    (i1 i3 : ∀ v, C1 v → ∀ a x, ((![v] : Fin 1 → IVec L16 32) a x).toNat < (Tbl B).size a)
    (i2 : ∀ v, C2 v → ∀ a x, ((![v] : Fin 1 → IVec L16 32) a x).toNat < (Tbl 65536).size a)
    (hC1 : ∀ v : IVec L16 32, (∀ a x, ((![v] : Fin 1 → IVec L16 32) a x).toNat < (Tbl B).size a) → C1 v)
    (hC2 : ∀ v : IVec L16 32, (∀ a x, ((![v] : Fin 1 → IVec L16 32) a x).toNat < (Tbl 65536).size a) → C2 v)
    {hl : hist.view.Loads} {hs : (hist.access (.whole (Tbl B))).Stores Finset.univ} {hs' : (dest.access (.whole (Tbl 65536))).Stores Finset.univ}
    {key : Vec F L16 .i32} {msk full : IVec L16 1} (hmsk : ∀ x, msk x = 1) (hfull : ∀ x, full x = 1)
    {one : IVec L16 32} (hone : ∀ x, one x = 1#32)
    (hdg : ∀ k, dg k < B) (hn : n + 16 ≤ 65536)
    (hkey : ∀ k : Fin 16, key (ln k) = K (n + k.val)) (hix : ∀ k : Fin 16, (ix (ln k)).toNat = dg (K (n + k.val))) (r : α) :
    iprop(Dst c dest dg K n ∗ At c hist fullShare (Hn B dg 65536 K n))
      ⊢ (wp frame (wpE defs 𝒱 c bd) Set.univ
          (.op (.assume (C1 ix) (d1 ix)) fun h1 =>
            SparseCore.vectorLoadIdx hist ![ix] (i1 ix h1.down) hl >>= fun (v : Vec F L16 .i32) =>
            .op (.assume (C2 (subi (addi v (scanCount msk ix).2) one)) (d2 _)) fun h2 =>
            SparseCore.vectorStoreIdx dest ![subi (addi v (scanCount msk ix).2) one] key full false (i2 _ h2.down) hs' >>= fun _ =>
            SparseCore.vectorStoreIdx hist ![ix] ((scanCount msk ix).2 : Vec F L16 .i32) (scanCount msk ix).1 true (i3 ix h1.down) hs >>= fun _ =>
            .ret r)
          fun _ => iprop(Dst c dest dg K (n + 16) ∗ At c hist fullShare (Hn B dg 65536 K (n + 16))) : sProp 𝕄) := by
  have hb : ∀ a x, ((![ix] : Fin 1 → IVec L16 32) a x).toNat < (Tbl B).size a := by
    intro a x
    obtain rfl : a = 0 := Fin.eq_zero a
    show (ix x).toNat < B
    obtain ⟨k, rfl⟩ := exists_ln x
    rw [hix]; exact hdg _
  rw [wp_assume_of _ _ _ _ (hC1 ix hb)]
  unfold Dst
  iintro ⟨⟨%g, %hg, HD⟩, HH⟩
  iapply (at_loadIdx 𝒱 c bd) $$ HH
  generalize hv : loadIdx (Hn (F := F) B dg 65536 K n) ![ix] hb = v
  iintro HH
  have hvk : ∀ k : Fin 16, v (ln k) = BitVec.ofNat 32 (pre dg 65536 K (dg (K (n + k.val))) + cnt dg K n (dg (K (n + k.val)))) := by
    intro k
    rw [← hv]
    show BitVec.ofNat 32 (pre dg 65536 K (ix (ln k)).toNat + cnt dg K n (ix (ln k)).toNat) = _
    rw [hix]
  have hpl : ∀ k : Fin 16, (subi (addi v (scanCount msk ix).2) one (ln k)).toNat = pos dg 65536 K (n + k.val) := by
    intro k
    have h1 : subi (addi v (scanCount msk ix).2) one (ln k) = BitVec.ofNat 32 (pos dg 65536 K (n + k.val)) := by
      show v (ln k) + (scanCount msk ix).2 (ln k) - one (ln k) = _
      rw [hone]
      exact place_eq msk hmsk hix k _ (hvk k)
    have h2 : pos dg 65536 K (n + k.val) < 65536 := pos_lt dg 65536 K (by omega)
    rw [h1, BitVec.toNat_ofNat, Nat.mod_eq_of_lt (by omega)]
  have hb2 : ∀ a x, ((![subi (addi v (scanCount msk ix).2) one] : Fin 1 → IVec L16 32) a x).toNat < (Tbl 65536).size a := by
    intro a x
    obtain rfl : a = 0 := Fin.eq_zero a
    show (subi (addi v (scanCount msk ix).2) one x).toNat < 65536
    obtain ⟨k, rfl⟩ := exists_ln x
    rw [hpl]; exact pos_lt dg 65536 K (by omega)
  iapply (at_assume 𝒱 c bd (hC2 _ hb2))
  iapply (at_storeIdx 𝒱 c bd) $$ HD
  iintro HD
  iapply (at_storeIdx 𝒱 c bd) $$ HH
  iintro HH
  rw [wp_ret]
  imodintro
  isplitl [HD]
  · iexists _
    isplitr [HD]
    rotate_left
    · iexact HD
    · ipureintro
      intro i hi j hj
      by_cases hin : i < n
      · rw [storeIdx_miss g key full _ j]
        · exact hg i hin j hj
        · intro k hk
          rw [hpl, hj] at hk
          have := pos_inj dg 65536 K (by omega) (by omega) hk
          omega
      · have hk : ((⟨i - n, by omega⟩ : Fin 16) : ℕ) = i - n := rfl
        generalize (⟨i - n, by omega⟩ : Fin 16) = k at hk
        obtain rfl : i = n + k.val := by omega
        rw [storeIdx_hit g key full hfull _ j k ((hpl k).trans hj.symm), hkey]
        intro y hy
        rw [hpl, hj] at hy
        have := pos_inj dg 65536 K (by omega) (by omega) hy
        exact Fin.ext (by omega)
  · have he : storeIdx (Hn (F := F) B dg 65536 K n) ![ix] (scanCount msk ix).2 (scanCount msk ix).1 true hb = Hn (F := F) B dg 65536 K (n + 16) := by
      funext j
      rw [storeIdx_counts _ msk hmsk]
      show BitVec.ofNat 32 _ + _ = BitVec.ofNat 32 _
      rw [cnt_lanes hix, ofNat_cast, ofNat_cast, ofNat_cast, ← Nat.add_assoc, Nat.cast_add (pre dg 65536 K _ + _)]
    rw [← he]
    iexact HH

end Cert.Trips
-- ==== Proof.Stream.lean ====
/-
  A row streamed through two buffers in sixteen windows of 4096: each trip takes two windows, fetching one into either
  buffer while the other is consumed. Stated over what consumes the windows, an assertion `Cs n` for the first `n`
  elements consumed.
-/
module

public import proofs.«01_k».proof.Proof.Cells

@[expose] public section

noncomputable section

namespace Cert.Stream

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Cells

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp : Space} {s t : Shape} {e : EltTy} {α : Type} {Q : α → sProp (MT nD τ sig Ix (Elt F) Name U Lvl)}

local notation "𝕄" => MT nD τ sig Ix (Elt F) Name U Lvl

/-! ## Buffers of any contents, and what a thread owes with leave to wait -/

/-- The elements under `m`, whatever they are. -/
def Any (m : Memref sig c.2.kind sp s e) : sProp 𝕄 := iprop(∃ g, At c m fullShare g)

theorem any_intro (m : Memref sig c.2.kind sp s e) (g : s.Idx → Elt F e) : (At c m fullShare g : sProp 𝕄) ⊢ Any c m := by
  unfold Any
  iintro H; iexists g; iexact H

/-- What a thread owes, with leave to wait on any of its cells. -/
def Owm (ι : Ix) (O : CellTallies nD τ sig Ix) (W : Waits sig Ix) : sProp 𝕄 := iprop(Ow c ι O W ∗ MayWaits c ι O)

variable (EC : UEmb Counters (MT nD τ sig Ix (Elt F) Name U Lvl))

theorem at_waitm [EC.LandsIn (upEmb : UEmb _ 𝕄)] {sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) (N : ℕ) (hN : dstw.view.dmaCredit = N) {D : sProp 𝕄}
    {O : CellTallies nD τ sig Ix} {W : Waits sig Ix} :
    iprop(Flight EC c (.dma sem) ι N D ∗ Owm c ι O W)
      ⊢ iprop((iprop(D ∗ semVal (c, .dma sem) 0 ∗ Owm c ι O W) -∗ wp frame (wpE defs 𝒱 c bd) Set.univ (k ⟨⟩) Q)
          -∗ wp frame (wpE defs 𝒱 c bd) Set.univ (.op (.waitDma2 sem srcw dstw hsrc hdst) k) Q) := by
  unfold Owm
  iintro ⟨HF, HO, #Hmw⟩ Hk
  iapply (at_wait 𝒱 c bd EC ι N hN) $$ [HF HO]
  · isplitl [HF]; · iexact HF
    isplitl [HO]; · iexact HO
    iexact Hmw
  iintro ⟨HD, Hv, HO⟩
  iapply Hk
  isplitl [HD]; · iexact HD
  isplitl [Hv]; · iexact Hv
  isplitl [HO]; · iexact HO
  iexact Hmw

/-- A whole row written from a buffer, and the wait for it. -/
theorem row_write [Infinite Name] [EC.LandsIn (upEmb : UEmb _ 𝕄)] (ι : Ix)
    {A : Memref sig c.2.kind sp Arr e} {sp' : Space} {b : Memref sig c.2.kind sp' (Win 65536) e} {sem : DmaSem sig}
    {off : Fin 2 → ℕ} {inb inb' : ∀ a, off a + (Band 65536).size a ≤ Arr.size a} {hq hq' : (Band 65536).Squeezes (Win 65536)}
    {hsrc hsrc' : b.view.WordExact} {hdst : (DmaTarget.here (nD := nD) (τ := τ) (p := c.2) (win A 65536 off inb hq)).view.WordExact}
    {hdst' : (win A 65536 off inb' hq').view.WordExact}
    {hsem : DmaTarget.Typed (nD := nD) sp' (.dma sem) (.here (win A 65536 off inb hq))}
    {k : PUnit → Prog (TpuEff nD τ sig (Elt F) Λ c.2) α} (r : Fin 256) (hoff : off = ![r.val, 0])
    {q : PosShare TreeShare} {g : (Win 65536).Idx → Elt F e} {g0 : ℕ → Elt F e} (g' : ℕ → Elt F e) (hg : ∀ x, g x = g' (x 0).val)
    {O : CellTallies nD τ sig Ix} {W : Waits sig Ix} :
    iprop(At c b q g ∗ Row c A r fullShare g0 ∗ semVal (c, .dma sem) 0 ∗ Owm c ι O W)
      ⊢ iprop((iprop(At c b q g ∗ Row c A r fullShare g' ∗ semVal (c, .dma sem) 0 ∗ Owm c ι O W)
            -∗ wp frame (wpE defs 𝒱 c bd) Set.univ (k ⟨⟩) Q)
          -∗ wp frame (wpE defs 𝒱 c bd) Set.univ (.op (.enqueueDma b (.here (win A 65536 off inb hq)) (.dma sem) hsrc hdst hsem) fun _ =>
            .op (.waitDma2 sem b (win A 65536 off inb' hq') hsrc' hdst') k) Q) := by
  iintro ⟨Hb, HA, Hv, HO⟩ Hk
  iapply (row_enqueue 𝒱 c bd EC ι r hoff g' hg) $$ [Hb HA Hv]
  · isplitl [Hb]; · iexact Hb
    isplitl [HA]; · iexact HA
    iexact Hv
  iintro HF
  iapply (at_waitm 𝒱 c bd EC ι _ rfl) $$ [HF HO]
  · isplitl [HF]; · iexact HF
    iexact HO
  iintro ⟨⟨Hb, HA⟩, Hv, HO⟩
  iapply Hk
  isplitl [Hb]; · iexact Hb
  isplitl [HA]; · iexact HA
  isplitl [Hv]; · iexact Hv
  iexact HO

/-! ## The stream -/

variable {cs : CoreSpace} (A : Memref sig c.2.kind sp Arr e) (b0 b1 : Memref sig c.2.kind cs (Win 4096) e) (s0 s1 : DmaSem sig) (r : Fin 256)
  (g : ℕ → Elt F e) (ι : Ix) (O : CellTallies nD τ sig Ix) (W : Waits sig Ix) (Cs : ℕ → sProp (MT nD τ sig Ix (Elt F) Name U Lvl))

/-- A buffer holding the window from element `n`. -/
abbrev Wn (b : Memref sig c.2.kind cs (Win 4096) e) (n : ℕ) : sProp 𝕄 := At c b fullShare fun x => g (n + (x 0).val)

/-- Before trip `t`: the first `8192 t` elements consumed, the next window on its way into the first buffer, or
    after the last trip nothing on its way. -/
def Strm (t : ℕ) : sProp 𝕄 :=
  iprop(Cs (8192 * t) ∗ Any c b1 ∗ Row c A r fullShare.right g ∗ semVal (c, .dma s1) 0 ∗ Owm c ι O W
    ∗ (if t < 8 then Flight EC c (.dma s0) ι b0.view.dmaCredit iprop(Wn c g b0 (8192 * t) ∗ Row c A r fullShare.left g)
        else iprop(Any c b0 ∗ semVal (c, .dma s0) 0 ∗ Row c A r fullShare.left g)))

/-- Within trip `t`, the first of its two windows consumed. -/
def Half (t : ℕ) : sProp 𝕄 :=
  iprop(Cs (8192 * t + 4096) ∗ Any c b0 ∗ Row c A r fullShare.left g ∗ semVal (c, .dma s0) 0 ∗ Owm c ι O W
    ∗ Flight EC c (.dma s1) ι b1.view.dmaCredit iprop(Wn c g b1 (8192 * t + 4096) ∗ Row c A r fullShare.right g))

variable [Infinite Name] [EC.LandsIn (upEmb : UEmb _ (MT nD τ sig Ix (Elt F) Name U Lvl))]

/-- The first window's fetch begins the stream. -/
theorem stream_start {off : Fin 2 → ℕ} {inb : ∀ a, off a + (Band 4096).size a ≤ Arr.size a} {hq : (Band 4096).Squeezes (Win 4096)}
    {hsrc : (win A 4096 off inb hq).view.WordExact} {hdst : (DmaTarget.here (nD := nD) (τ := τ) (p := c.2) b0).view.WordExact}
    {hsem : DmaTarget.Typed (nD := nD) sp (.dma s0) (.here b0)} {k : PUnit → Prog (TpuEff nD τ sig (Elt F) Λ c.2) α}
    (hoff : off = ![r.val, 0]) :
    iprop(Cs 0 ∗ Any c b0 ∗ Any c b1 ∗ Row c A r fullShare g ∗ semVal (c, .dma s0) 0 ∗ semVal (c, .dma s1) 0 ∗ Owm c ι O W)
      ⊢ iprop((Strm c EC A b0 b1 s0 s1 r g ι O W Cs 0 -∗ wp frame (wpE defs 𝒱 c bd) Set.univ (k ⟨⟩) Q)
          -∗ wp frame (wpE defs 𝒱 c bd) Set.univ (.op (.enqueueDma (win A 4096 off inb hq) (.here b0) (.dma s0) hsrc hdst hsem) k) Q) := by
  unfold Strm
  rw [if_pos (by omega)]
  iintro ⟨HC, H0, H1, HA, Hv0, Hv1, HO⟩ Hk
  ihave HA := (row_split c A r fullShare g) $$ HA
  icases HA with ⟨HAl, HAr⟩
  unfold Any
  icases H0 with ⟨%g0, H0⟩
  iapply (win_enqueue 𝒱 c bd EC ι (by omega) r 0 hoff (by omega) g) $$ [H0 HAl Hv0]
  · isplitl [H0]; · iexact H0
    isplitl [HAl]; · iexact HAl
    iexact Hv0
  iintro HF
  iapply Hk
  isplitl [HC]; · iexact HC
  isplitl [H1]; · iexact H1
  isplitl [HAr]; · iexact HAr
  isplitl [Hv1]; · iexact Hv1
  isplitl [HO]; · iexact HO
  iexact HF

/-- After the last trip the whole row is consumed and everything is back. -/
theorem stream_end :
    Strm c EC A b0 b1 s0 s1 r g ι O W Cs 8
      ⊢ iprop(Cs 65536 ∗ Any c b0 ∗ Any c b1 ∗ Row c A r fullShare g ∗ semVal (c, .dma s0) 0 ∗ semVal (c, .dma s1) 0 ∗ Owm c ι O W) := by
  unfold Strm
  rw [if_neg (by omega)]
  iintro ⟨HC, H1, HAr, Hv1, HO, H0, Hv0, HAl⟩
  isplitl [HC]; · iexact HC
  isplitl [H0]; · iexact H0
  isplitl [H1]; · iexact H1
  isplitl [HAl HAr]
  · iapply (row_join c A r fullShare g)
    isplitl [HAl]; · iexact HAl
    iexact HAr
  isplitl [Hv0]; · iexact Hv0
  isplitl [Hv1]; · iexact Hv1
  iexact HO

variable {A b0 b1 s0 s1 r g ι O W Cs}
variable {σ : Type} {spx : Space} {t : ℕ}

/-- The first half of a trip: the second buffer's fetch, the wait for the first buffer, its window consumed. -/
theorem stream_first {off : Fin 2 → ℕ} {inb : ∀ a, off a + (Band 4096).size a ≤ Arr.size a} {hq : (Band 4096).Squeezes (Win 4096)}
    {hsrc : (win A 4096 off inb hq).view.WordExact} {hdst : (DmaTarget.here (nD := nD) (τ := τ) (p := c.2) b1).view.WordExact}
    {hsem : DmaTarget.Typed (nD := nD) sp (.dma s1) (.here b1)}
    {srcw : Memref sig c.2.kind spx (Win 4096) e} {hsrc' : srcw.view.WordExact} {hdst' : b0.view.WordExact}
    {L : Prog (TpuEff nD τ sig (Elt F) Λ c.2) σ} {k : σ → Prog (TpuEff nD τ sig (Elt F) Λ c.2) α}
    (ht : t < 8) (hoff : off = ![r.val, 8192 * t + 4096])
    (hL : iprop(Cs (8192 * t) ∗ Wn c g b0 (8192 * t))
      ⊢ wp frame (wpE defs 𝒱 c bd) Set.univ L fun _ => iprop(Cs (8192 * t + 4096) ∗ Wn c g b0 (8192 * t))) :
    Strm c EC A b0 b1 s0 s1 r g ι O W Cs t
      ⊢ iprop((∀ y, Half c EC A b0 b1 s0 s1 r g ι O W Cs t -∗ wp frame (wpE defs 𝒱 c bd) Set.univ (k y) Q)
          -∗ wp frame (wpE defs 𝒱 c bd) Set.univ (.op (.enqueueDma (win A 4096 off inb hq) (.here b1) (.dma s1) hsrc hdst hsem) fun _ =>
            .op (.waitDma2 s0 srcw b0 hsrc' hdst') fun _ => L >>= k) Q) := by
  unfold Strm Half
  rw [if_pos ht]
  iintro ⟨HC, H1, HAr, Hv1, HO, HF⟩ Hk
  unfold Any
  icases H1 with ⟨%g1, H1⟩
  iapply (win_enqueue 𝒱 c bd EC ι (by omega) r (8192 * t + 4096) hoff (by omega) g) $$ [H1 HAr Hv1]
  · isplitl [H1]; · iexact H1
    isplitl [HAr]; · iexact HAr
    iexact Hv1
  iintro HF1
  iapply (at_waitm 𝒱 c bd EC ι _ rfl) $$ [HF HO]
  · isplitl [HF]; · iexact HF
    iexact HO
  iintro ⟨⟨H0, HAl⟩, Hv0, HO⟩
  rw [wp_bind]
  iapply (wp_wand frame (wpE defs 𝒱 c bd) Set.univ (p := L)) $$ [HC H0]
  · iapply hL
    isplitl [HC]; · iexact HC
    iexact H0
  iintro %y ⟨HC, H0⟩
  iapply Hk
  isplitl [HC]; · iexact HC
  isplitl [H0]; · iexists _; iexact H0
  isplitl [HAl]; · iexact HAl
  isplitl [Hv0]; · iexact Hv0
  isplitl [HO]; · iexact HO
  iexact HF1

/-- The second half of a trip but the last. -/
theorem stream_second {off : Fin 2 → ℕ} {inb : ∀ a, off a + (Band 4096).size a ≤ Arr.size a} {hq : (Band 4096).Squeezes (Win 4096)}
    {hsrc : (win A 4096 off inb hq).view.WordExact} {hdst : (DmaTarget.here (nD := nD) (τ := τ) (p := c.2) b0).view.WordExact}
    {hsem : DmaTarget.Typed (nD := nD) sp (.dma s0) (.here b0)}
    {srcw : Memref sig c.2.kind spx (Win 4096) e} {hsrc' : srcw.view.WordExact} {hdst' : b1.view.WordExact}
    {L : Prog (TpuEff nD τ sig (Elt F) Λ c.2) σ} {k : σ → Prog (TpuEff nD τ sig (Elt F) Λ c.2) α}
    (ht : t + 1 < 8) (hoff : off = ![r.val, 8192 * t + 8192])
    (hL : iprop(Cs (8192 * t + 4096) ∗ Wn c g b1 (8192 * t + 4096))
      ⊢ wp frame (wpE defs 𝒱 c bd) Set.univ L fun _ => iprop(Cs (8192 * (t + 1)) ∗ Wn c g b1 (8192 * t + 4096))) :
    Half c EC A b0 b1 s0 s1 r g ι O W Cs t
      ⊢ iprop((∀ y, Strm c EC A b0 b1 s0 s1 r g ι O W Cs (t + 1) -∗ wp frame (wpE defs 𝒱 c bd) Set.univ (k y) Q)
          -∗ wp frame (wpE defs 𝒱 c bd) Set.univ (.op (.enqueueDma (win A 4096 off inb hq) (.here b0) (.dma s0) hsrc hdst hsem) fun _ =>
            .op (.waitDma2 s1 srcw b1 hsrc' hdst') fun _ => L >>= k) Q) := by
  unfold Strm Half
  rw [if_pos ht]
  iintro ⟨HC, H0, HAl, Hv0, HO, HF⟩ Hk
  unfold Any
  icases H0 with ⟨%g0, H0⟩
  iapply (win_enqueue 𝒱 c bd EC ι (by omega) r (8192 * (t + 1)) hoff (by omega) g) $$ [H0 HAl Hv0]
  · isplitl [H0]; · iexact H0
    isplitl [HAl]; · iexact HAl
    iexact Hv0
  iintro HF0
  iapply (at_waitm 𝒱 c bd EC ι _ rfl) $$ [HF HO]
  · isplitl [HF]; · iexact HF
    iexact HO
  iintro ⟨⟨H1, HAr⟩, Hv1, HO⟩
  rw [wp_bind]
  iapply (wp_wand frame (wpE defs 𝒱 c bd) Set.univ (p := L)) $$ [HC H1]
  · iapply hL
    isplitl [HC]; · iexact HC
    iexact H1
  iintro %y ⟨HC, H1⟩
  iapply Hk
  isplitl [HC]; · iexact HC
  isplitl [H1]; · iexists _; iexact H1
  isplitl [HAr]; · iexact HAr
  isplitl [Hv1]; · iexact Hv1
  isplitl [HO]; · iexact HO
  iexact HF0

/-- The second half of the last trip. -/
theorem stream_last {srcw : Memref sig c.2.kind spx (Win 4096) e} {hsrc' : srcw.view.WordExact} {hdst' : b1.view.WordExact}
    {L : Prog (TpuEff nD τ sig (Elt F) Λ c.2) σ} {k : σ → Prog (TpuEff nD τ sig (Elt F) Λ c.2) α}
    (ht : ¬ t + 1 < 8)
    (hL : iprop(Cs (8192 * t + 4096) ∗ Wn c g b1 (8192 * t + 4096))
      ⊢ wp frame (wpE defs 𝒱 c bd) Set.univ L fun _ => iprop(Cs (8192 * (t + 1)) ∗ Wn c g b1 (8192 * t + 4096))) :
    Half c EC A b0 b1 s0 s1 r g ι O W Cs t
      ⊢ iprop((∀ y, Strm c EC A b0 b1 s0 s1 r g ι O W Cs (t + 1) -∗ wp frame (wpE defs 𝒱 c bd) Set.univ (k y) Q)
          -∗ wp frame (wpE defs 𝒱 c bd) Set.univ (.op (.waitDma2 s1 srcw b1 hsrc' hdst') fun _ => L >>= k) Q) := by
  unfold Strm Half
  rw [if_neg ht]
  iintro ⟨HC, H0, HAl, Hv0, HO, HF⟩ Hk
  iapply (at_waitm 𝒱 c bd EC ι _ rfl) $$ [HF HO]
  · isplitl [HF]; · iexact HF
    iexact HO
  iintro ⟨⟨H1, HAr⟩, Hv1, HO⟩
  rw [wp_bind]
  iapply (wp_wand frame (wpE defs 𝒱 c bd) Set.univ (p := L)) $$ [HC H1]
  · iapply hL
    isplitl [HC]; · iexact HC
    iexact H1
  iintro %y ⟨HC, H1⟩
  iapply Hk
  isplitl [HC]; · iexact HC
  isplitl [H1]; · iapply (any_intro c b1 _); iexact H1
  isplitl [HAr]; · iexact HAr
  isplitl [Hv1]; · iexact Hv1
  isplitl [HO]; · iexact HO
  isplitl [H0]; · iexact H0
  isplitl [Hv0]; · iexact Hv0
  iexact HAl

/-- The trips of a stream, all eight of them. -/
theorem stream_loop {l : Scf.Loop 32} {ok : l.OK} (htr : l.trips = 8) {body : Fin l.trips → Unit → Prog (TpuEff nD τ sig (Elt F) Λ c.2) Unit}
    {k : Unit → Prog (TpuEff nD τ sig (Elt F) Λ c.2) α}
    (hbody : ∀ (t : Fin l.trips) acc, t.val < 8 → Strm c EC A b0 b1 s0 s1 r g ι O W Cs t.val
      ⊢ wp frame (wpE defs 𝒱 c bd) Set.univ (body t acc) fun _ => Strm c EC A b0 b1 s0 s1 r g ι O W Cs (t.val + 1)) :
    Strm c EC A b0 b1 s0 s1 r g ι O W Cs 0
      ⊢ iprop((∀ y, iprop(Cs 65536 ∗ Any c b0 ∗ Any c b1 ∗ Row c A r fullShare g ∗ semVal (c, .dma s0) 0 ∗ semVal (c, .dma s1) 0 ∗ Owm c ι O W)
          -∗ wp frame (wpE defs 𝒱 c bd) Set.univ (k y) Q)
        -∗ wp frame (wpE defs 𝒱 c bd) Set.univ (Scf.Loop.for l ok ⟨⟩ body >>= k) Q) := by
  iintro H Hk
  iapply (Scf.wp_for_bind frame (wpE defs 𝒱 c bd) Set.univ l.lb l.ub l.st ok ⟨⟩ body
    (fun k _ => Strm c EC A b0 b1 s0 s1 r g ι O W Cs k) fun t acc => hbody t acc (htr ▸ t.isLt)) $$ H
  iintro %y H
  iapply Hk
  have h : Scf.trips l.lb l.ub l.st = 8 := htr
  rw [h]
  iapply (stream_end c EC A b0 b1 s0 s1 r g ι O W Cs) $$ H

end Cert.Stream
-- ==== Proof.Passes.lean ====
/-
  The trips and loops over one window of a streamed row: counting its keys' three digits into three tables, and sending
  its keys to their places; and the loops that clear a table and turn its counts into totals.
-/
module

public import proofs.«01_k».proof.Proof.Trips
public import proofs.«01_k».proof.Proof.Stream

@[expose] public section

noncomputable section

namespace Cert.Passes

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Cells Cert.Lanes Cert.Radix Cert.Trips Cert.Stream

variable {nD : Nat} {τ : Topo} {sig : RefSig} {Ix : Type} [DecidableEq Ix]
variable {F : FTy → Type} [BitOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {e : EltTy} {α : Type} {Q : α → sProp (MT nD τ sig Ix (Elt F) Name U Lvl)}
variable {B B1 B2 B3 t : ℕ}

local notation "𝕄" => MT nD τ sig Ix (Elt F) Name U Lvl

/-- The elements of a window of a row, sixteen at a time. -/
theorem wn_at (g : ℕ → Elt F e) (n0 : ℕ) (h : 16 * t + 16 ≤ 4096) (k : Fin 16) :
    (fun x : L16.Idx => (fun y : (Tbl 4096).Idx => g (n0 + (y 0).val)) (ofs h x)) (ln k) = g (n0 + 16 * t + k.val) := by
  show g (n0 + (ofs h (ln k) 0).val) = _
  rw [ofs_zero, ln_zero, Nat.add_assoc]

/-- What a pass holds with the first `n` keys at their places. -/
def Pass1 (hist : Memref sig c.2.kind .vmem (Tbl B) .i32) (dest : Memref sig c.2.kind .vmem (Tbl 65536) .i32)
    (dg : BitVec 32 → ℕ) (K : ℕ → BitVec 32) (n : ℕ) : sProp 𝕄 :=
  iprop(Dst c dest dg K n ∗ At c hist fullShare (Hn B dg 65536 K n))

/-- Sixteen keys loaded from the window and sent to their places. -/
theorem pass_trip {hist : Memref sig c.2.kind .vmem (Tbl B) .i32} {dest : Memref sig c.2.kind .vmem (Tbl 65536) .i32}
    {b : Memref sig c.2.kind .vmem (Tbl 4096) e} {off : Fin 1 → ℕ} {inb : ∀ a, off a + L16.size a ≤ (Tbl 4096).size a}
    {hlb : b.view.LoadsAt (Rect.unit (s := Tbl 4096) off L16.size inb).toLoadRect}
    {C1 C2 : IVec L16 32 → Prop} {d1 : ∀ v, Decidable (C1 v)} {d2 : ∀ v, Decidable (C2 v)}
    (i1 i3 : ∀ v, C1 v → ∀ a x, ((![v] : Fin 1 → IVec L16 32) a x).toNat < (Tbl B).size a)
    (i2 : ∀ v, C2 v → ∀ a x, ((![v] : Fin 1 → IVec L16 32) a x).toNat < (Tbl 65536).size a)
    (hC1 : ∀ v : IVec L16 32, (∀ a x, ((![v] : Fin 1 → IVec L16 32) a x).toNat < (Tbl B).size a) → C1 v)
    (hC2 : ∀ v : IVec L16 32, (∀ a x, ((![v] : Fin 1 → IVec L16 32) a x).toNat < (Tbl 65536).size a) → C2 v)
    {hl : hist.view.Loads} {hs : (hist.access (.whole (Tbl B))).Stores Finset.univ} {hs' : (dest.access (.whole (Tbl 65536))).Stores Finset.univ}
    {keyf ixf : Vec F L16 e → IVec L16 32} {msk full : IVec L16 1} (hmsk : ∀ x, msk x = 1) (hfull : ∀ x, full x = 1)
    {one : IVec L16 32} (hone : ∀ x, one x = 1#32)
    {dg : BitVec 32 → ℕ} (hdg : ∀ k, dg k < B) (kf : Elt F e → BitVec 32)
    (hkey : ∀ v x, keyf v x = kf (v x)) (hix : ∀ v x, (ixf v x).toNat = dg (kf (v x)))
    (g : ℕ → Elt F e) (n0 : ℕ) (hn : n0 + 4096 ≤ 65536) (ht : t < 256) (hoff : off = ![16 * t]) (r : α) :
    iprop(Pass1 c hist dest dg (fun j => kf (g j)) (n0 + 16 * t) ∗ Wn c g b n0)
      ⊢ (wp frame (wpE defs 𝒱 c bd) Set.univ
          (.op (.load b (Rect.unit (s := Tbl 4096) off L16.size inb).toLoadRect hlb) fun (w : Vec F L16 e) =>
            .op (.assume (C1 (ixf w)) (d1 (ixf w))) fun h1 =>
            SparseCore.vectorLoadIdx hist ![ixf w] (i1 (ixf w) h1.down) hl >>= fun (v : Vec F L16 .i32) =>
            .op (.assume (C2 (subi (addi v (scanCount msk (ixf w)).2) one)) (d2 _)) fun h2 =>
            SparseCore.vectorStoreIdx dest ![subi (addi v (scanCount msk (ixf w)).2) one] (keyf w : Vec F L16 .i32) full false (i2 _ h2.down) hs' >>= fun _ =>
            SparseCore.vectorStoreIdx hist ![ixf w] ((scanCount msk (ixf w)).2 : Vec F L16 .i32) (scanCount msk (ixf w)).1 true (i3 (ixf w) h1.down) hs >>= fun _ =>
            .ret r)
          fun _ => iprop(Pass1 c hist dest dg (fun j => kf (g j)) (n0 + 16 * (t + 1)) ∗ Wn c g b n0) : sProp 𝕄) := by
  have h : 16 * t + 16 ≤ 4096 := by omega
  unfold Pass1
  iintro ⟨HP, HW⟩
  iapply (at_load16 𝒱 c bd h hoff) $$ HW
  iintro HW
  iapply (wp_wand frame (wpE defs 𝒱 c bd) Set.univ) $$ [HP]
  · iapply (permute_trip 𝒱 c bd i1 i3 i2 hC1 hC2 hmsk hfull hone (n := n0 + 16 * t) hdg (by omega) ?_ ?_ r) $$ HP
    · intro k
      exact (hkey _ _).trans (congrArg kf (wn_at g n0 h k))
    · intro k
      exact (hix _ _).trans (congrArg (fun z => dg (kf z)) (wn_at g n0 h k))
  iintro %_ HP
  isplitr [HW]
  · rw [show n0 + 16 * (t + 1) = n0 + 16 * t + 16 by omega]
    iexact HP
  · iexact HW

/-- What the counting sweep holds with the digits of the first `n` keys counted. -/
def Sweep (m1 : Memref sig c.2.kind .vmem (Tbl B1) .i32) (m2 : Memref sig c.2.kind .vmem (Tbl B2) .i32)
    (m3 : Memref sig c.2.kind .vmem (Tbl B3) .i32) (dg1 dg2 dg3 : BitVec 32 → ℕ) (K : ℕ → BitVec 32) (n : ℕ) : sProp 𝕄 :=
  iprop(At c m1 fullShare (Cn B1 dg1 K n) ∗ At c m2 fullShare (Cn B2 dg2 K n) ∗ At c m3 fullShare (Cn B3 dg3 K n))

theorem digits_inb {v : IVec L16 32} {dg : BitVec 32 → ℕ} (hdg : ∀ k, dg k < B) {kf : L16.Idx → BitVec 32} (hix : ∀ x, (v x).toNat = dg (kf x)) :
    ∀ a x, ((![v] : Fin 1 → IVec L16 32) a x).toNat < (Tbl B).size a := by
  intro a x
  obtain rfl : a = 0 := Fin.eq_zero a
  show (v x).toNat < B
  rw [hix]; exact hdg _

/-- Sixteen keys loaded from the window and counted in the three tables. -/
theorem sweep_trip {m1 : Memref sig c.2.kind .vmem (Tbl B1) .i32} {m2 : Memref sig c.2.kind .vmem (Tbl B2) .i32}
    {m3 : Memref sig c.2.kind .vmem (Tbl B3) .i32}
    {b : Memref sig c.2.kind .vmem (Tbl 4096) e} {off : Fin 1 → ℕ} {inb : ∀ a, off a + L16.size a ≤ (Tbl 4096).size a}
    {hlb : b.view.LoadsAt (Rect.unit (s := Tbl 4096) off L16.size inb).toLoadRect}
    {C1 C2 C3 : IVec L16 32 → Prop} {d1 : ∀ v, Decidable (C1 v)} {d2 : ∀ v, Decidable (C2 v)} {d3 : ∀ v, Decidable (C3 v)}
    (i1 : ∀ v, C1 v → ∀ a x, ((![v] : Fin 1 → IVec L16 32) a x).toNat < (Tbl B1).size a)
    (i2 : ∀ v, C2 v → ∀ a x, ((![v] : Fin 1 → IVec L16 32) a x).toNat < (Tbl B2).size a)
    (i3 : ∀ v, C3 v → ∀ a x, ((![v] : Fin 1 → IVec L16 32) a x).toNat < (Tbl B3).size a)
    (hC1 : ∀ v : IVec L16 32, (∀ a x, ((![v] : Fin 1 → IVec L16 32) a x).toNat < (Tbl B1).size a) → C1 v)
    (hC2 : ∀ v : IVec L16 32, (∀ a x, ((![v] : Fin 1 → IVec L16 32) a x).toNat < (Tbl B2).size a) → C2 v)
    (hC3 : ∀ v : IVec L16 32, (∀ a x, ((![v] : Fin 1 → IVec L16 32) a x).toNat < (Tbl B3).size a) → C3 v)
    {hs1 : (m1.access (.whole (Tbl B1))).Stores Finset.univ} {hs2 : (m2.access (.whole (Tbl B2))).Stores Finset.univ}
    {hs3 : (m3.access (.whole (Tbl B3))).Stores Finset.univ}
    {x1 x2 x3 : Vec F L16 e → IVec L16 32} {full : IVec L16 1} (hfull : ∀ x, full x = 1) {ones : Vec F L16 .i32} (hones : ∀ x, ones x = (1#32 : BitVec 32))
    {dg1 dg2 dg3 : BitVec 32 → ℕ} (hdg1 : ∀ k, dg1 k < B1) (hdg2 : ∀ k, dg2 k < B2) (hdg3 : ∀ k, dg3 k < B3) (kf : Elt F e → BitVec 32)
    (hx1 : ∀ v x, (x1 v x).toNat = dg1 (kf (v x))) (hx2 : ∀ v x, (x2 v x).toNat = dg2 (kf (v x))) (hx3 : ∀ v x, (x3 v x).toNat = dg3 (kf (v x)))
    (g : ℕ → Elt F e) (n0 : ℕ) (ht : t < 256) (hoff : off = ![16 * t]) (r : α) :
    iprop(Sweep c m1 m2 m3 dg1 dg2 dg3 (fun j => kf (g j)) (n0 + 16 * t) ∗ Wn c g b n0)
      ⊢ (wp frame (wpE defs 𝒱 c bd) Set.univ
          (.op (.load b (Rect.unit (s := Tbl 4096) off L16.size inb).toLoadRect hlb) fun (w : Vec F L16 e) =>
            .op (.assume (C1 (x1 w)) (d1 (x1 w))) fun h1 =>
            SparseCore.vectorStoreIdx m1 ![x1 w] ones full true (i1 (x1 w) h1.down) hs1 >>= fun _ =>
            .op (.assume (C2 (x2 w)) (d2 (x2 w))) fun h2 =>
            SparseCore.vectorStoreIdx m2 ![x2 w] ones full true (i2 (x2 w) h2.down) hs2 >>= fun _ =>
            .op (.assume (C3 (x3 w)) (d3 (x3 w))) fun h3 =>
            SparseCore.vectorStoreIdx m3 ![x3 w] ones full true (i3 (x3 w) h3.down) hs3 >>= fun _ =>
            .ret r)
          fun _ => iprop(Sweep c m1 m2 m3 dg1 dg2 dg3 (fun j => kf (g j)) (n0 + 16 * (t + 1)) ∗ Wn c g b n0) : sProp 𝕄) := by
  have h : 16 * t + 16 ≤ 4096 := by omega
  unfold Sweep
  iintro ⟨⟨H1, H2, H3⟩, HW⟩
  iapply (at_load16 𝒱 c bd h hoff) $$ HW
  iintro HW
  iapply (at_assume 𝒱 c bd (hC1 _ (digits_inb hdg1 (hx1 _))))
  iapply (hist_step 𝒱 c bd hones hfull fun k => (hx1 _ _).trans (congrArg (fun z => dg1 (kf z)) (wn_at g n0 h k))) $$ H1
  iintro H1
  iapply (at_assume 𝒱 c bd (hC2 _ (digits_inb hdg2 (hx2 _))))
  iapply (hist_step 𝒱 c bd hones hfull fun k => (hx2 _ _).trans (congrArg (fun z => dg2 (kf z)) (wn_at g n0 h k))) $$ H2
  iintro H2
  iapply (at_assume 𝒱 c bd (hC3 _ (digits_inb hdg3 (hx3 _))))
  iapply (hist_step 𝒱 c bd hones hfull fun k => (hx3 _ _).trans (congrArg (fun z => dg3 (kf z)) (wn_at g n0 h k))) $$ H3
  iintro H3
  rw [wp_ret]
  imodintro
  rw [show n0 + 16 * (t + 1) = n0 + 16 * t + 16 by omega]
  isplitr [HW]
  · isplitl [H1]; · iexact H1
    isplitl [H2]; · iexact H2
    iexact H3
  · iexact HW

/-! ## Loops -/

/-- A loop of 256 trips over a window, from its trip. -/
theorem window_loop {σ : Type} {l : Scf.Loop 32} {ok : l.OK} (htr : l.trips = 256) {init : σ} {b : Memref sig c.2.kind .vmem (Tbl 4096) e}
    {body : Fin l.trips → σ → Prog (TpuEff nD τ sig (Elt F) Λ c.2) σ} {Cs : ℕ → sProp (MT nD τ sig Ix (Elt F) Name U Lvl)} {g : ℕ → Elt F e} {n0 : ℕ}
    (hbody : ∀ (t : Fin l.trips) acc, t.val < 256 → iprop(Cs (n0 + 16 * t.val) ∗ Wn c g b n0)
      ⊢ wp frame (wpE defs 𝒱 c bd) Set.univ (body t acc) fun _ => iprop(Cs (n0 + 16 * (t.val + 1)) ∗ Wn c g b n0)) :
    iprop(Cs n0 ∗ Wn c g b n0) ⊢ wp frame (wpE defs 𝒱 c bd) Set.univ (Scf.Loop.for l ok init body) fun _ => iprop(Cs (n0 + 4096) ∗ Wn c g b n0) := by
  refine BIBase.Entails.trans ?_ (Scf.wp_for frame (wpE defs 𝒱 c bd) Set.univ l.lb l.ub l.st ok init body
    (fun k _ => iprop(Cs (n0 + 16 * k) ∗ Wn c g b n0)) fun k acc => hbody k acc (htr ▸ k.isLt))
  iintro H
  isplitl [H]
  · iexact H
  · iintro %acc H
    have h : Scf.trips l.lb l.ub l.st = 256 := htr
    rw [h]
    iexact H

/-- A loop that clears a table. -/
theorem zero_loop {l : Scf.Loop 32} {ok : l.OK} {n : ℕ} (htr : l.trips = n) (hB : B = 16 * n) {init : BitVec 32}
    {m : Memref sig c.2.kind .vmem (Tbl B) .i32} {body : Fin l.trips → BitVec 32 → Prog (TpuEff nD τ sig (Elt F) Λ c.2) (BitVec 32)}
    (dg : BitVec 32 → ℕ) (K : ℕ → BitVec 32) {k : BitVec 32 → Prog (TpuEff nD τ sig (Elt F) Λ c.2) α}
    (hbody : ∀ (t : Fin l.trips) acc, 16 * t.val + 16 ≤ B → (Zd c m t.val : sProp 𝕄)
      ⊢ wp frame (wpE defs 𝒱 c bd) Set.univ (body t acc) fun _ => Zd c m (t.val + 1)) :
    Any c m ⊢ iprop((∀ y, At c m fullShare (Cn B dg K 0) -∗ wp frame (wpE defs 𝒱 c bd) Set.univ (k y) Q)
        -∗ wp frame (wpE defs 𝒱 c bd) Set.univ (Scf.Loop.for l ok init body >>= k) Q) := by
  unfold Any
  iintro ⟨%g, H⟩ Hk
  iapply (Scf.wp_for_bind frame (wpE defs 𝒱 c bd) Set.univ l.lb l.ub l.st ok init body (fun k _ => Zd c m k)
    fun t acc => hbody t acc (by have : t.val < l.trips := t.isLt; omega)) $$ [H]
  · unfold Zd
    iexists g
    isplitr [H]
    rotate_left
    · iexact H
    · ipureintro; intro j hj; omega
  iintro %y H
  iapply Hk
  have h : Scf.trips l.lb l.ub l.st = n := htr
  rw [h]
  iapply (zd_done c (by omega) dg K) $$ H

/-- A loop that turns a table's counts into totals. -/
theorem total_loop {l : Scf.Loop 32} {ok : l.OK} {n : ℕ} (htr : l.trips = n) (hB : B = 16 * n)
    {m : Memref sig c.2.kind .vmem (Tbl B) .i32} {body : Fin l.trips → BitVec 32 → Prog (TpuEff nD τ sig (Elt F) Λ c.2) (BitVec 32)}
    {dg : BitVec 32 → ℕ} {K : ℕ → BitVec 32} {N : ℕ} {k : BitVec 32 → Prog (TpuEff nD τ sig (Elt F) Λ c.2) α}
    (hbody : ∀ (t : Fin l.trips) acc, 16 * t.val + 16 ≤ B →
      iprop(⌜acc = BitVec.ofNat 32 (pre dg N K (16 * t.val))⌝ ∗ At c m fullShare (Pf B dg N K t.val))
      ⊢ (wp frame (wpE defs 𝒱 c bd) Set.univ (body t acc) fun acc' =>
          iprop(⌜acc' = BitVec.ofNat 32 (pre dg N K (16 * (t.val + 1)))⌝ ∗ At c m fullShare (Pf B dg N K (t.val + 1))) : sProp 𝕄)) :
    At c m fullShare (Cn B dg K N) ⊢ iprop((∀ y, At c m fullShare (Hn B dg N K 0) -∗ wp frame (wpE defs 𝒱 c bd) Set.univ (k y) Q)
        -∗ wp frame (wpE defs 𝒱 c bd) Set.univ (Scf.Loop.for l ok 0#32 body >>= k) Q) := by
  iintro H Hk
  iapply (Scf.wp_for_bind frame (wpE defs 𝒱 c bd) Set.univ l.lb l.ub l.st ok 0#32 body
    (fun k acc => iprop(⌜acc = BitVec.ofNat 32 (pre dg N K (16 * k))⌝ ∗ At c m fullShare (Pf B dg N K k)))
    fun t acc => hbody t acc (by have : t.val < l.trips := t.isLt; omega)) $$ [H]
  · isplitr [H]
    · ipureintro
      rw [Nat.mul_zero, pre_zero]
    · rw [pf_zero]; iexact H
  iintro %y ⟨-, H⟩
  iapply Hk
  have h : Scf.trips l.lb l.ub l.st = n := htr
  rw [h, pf_done (by omega)]
  iexact H

end Cert.Passes
-- ==== Proof.Inner.lean ====
/-
  The kernel's keys and digits, its memrefs as one bundle, and each of its innermost loops as an instance of the loops
  of a counting pass.
-/
module

public import proofs.«01_k».proof.Proof.Passes
public import proofs.«01_k».proof.Proof.Gen.Kernel
public import proofs.«01_k».proof.Proof.Gen.Kernel.Skeleton

@[expose] public section

noncomputable section

namespace Cert.Body

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.Cells Cert.Lanes Cert.Radix Cert.Trips Cert.Stream Cert.Passes

/-! ## Keys and digits -/

variable {F : FTy → Type} [BitOps F]

/-- A float's word with its order made the order of unsigned words. -/
def enc (u : BitVec 32) : BitVec 32 := u ^^^ (u.sshiftRight' 31#32 ||| 2147483648#32)

/-- A float's key. -/
def keyOf (f : Elt F .f32) : BitVec 32 := enc (BitOps.toBits (F := F) (φ := .f32) f)

theorem pay29_at (v : Vec F S16 .f32) (x : S16.Idx) : k0_pay29 v x = keyOf (v x) := rfl
theorem pay35_at (v : Vec F S16 .f32) (x : S16.Idx) : k0_pay35 v x = keyOf (v x) := rfl

theorem andi_mod (k : BitVec 32) (n : ℕ) (hn : n < 32) : (k &&& BitVec.ofNat 32 (2 ^ n - 1)).toNat = k.toNat % 2 ^ n := by
  rw [BitVec.toNat_and, BitVec.toNat_ofNat, Nat.mod_eq_of_lt, Nat.and_two_pow_sub_one_eq_mod]
  have : 2 ^ n ≤ 2 ^ 31 := Nat.pow_le_pow_right (by omega) (by omega)
  have : 0 < 2 ^ n := Nat.two_pow_pos n
  omega

theorem digA (k : BitVec 32) : (k &&& 2047#32).toNat = dgA k := andi_mod k 11 (by omega)
theorem digA' (k : BitVec 32) : ((k >>> 0#32) &&& 2047#32).toNat = dgA k := by
  rw [digA]
  exact congrArg dgA (by simp)
theorem digB (k : BitVec 32) : ((k >>> 11#32) &&& 2047#32).toNat = dgB k := by
  refine (andi_mod (k >>> 11#32) 11 (by omega)).trans ?_
  rw [BitVec.ushiftRight_eq', BitVec.toNat_ushiftRight, Nat.shiftRight_eq_div_pow]
  rfl
theorem digC (k : BitVec 32) : ((k >>> 22#32) &&& 1023#32).toNat = dgC k := by
  refine (andi_mod (k >>> 22#32) 10 (by omega)).trans ?_
  rw [BitVec.ushiftRight_eq', BitVec.toNat_ushiftRight, Nat.shiftRight_eq_div_pow]
  rfl

theorem dgA_lt (k : BitVec 32) : dgA k < 2048 := Nat.mod_lt _ (by omega)
theorem dgB_lt (k : BitVec 32) : dgB k < 2048 := Nat.mod_lt _ (by omega)
theorem dgC_lt (k : BitVec 32) : dgC k < 1024 := Nat.mod_lt _ (by omega)

/-! ## The memrefs -/

/-- What the kernel's body is handed. -/
structure Args where
  a2 : Memref sig .scVector .hbm S256x65536 .f32
  h2 : a2.IsWhole
  a3 : Memref sig .scVector .hbm S256x65536 .i32
  h3 : a3.IsWhole
  a4 : Memref sig .scVector .hbm S256x65536 .i32
  h4 : a4.IsWhole
  a5 : Memref sig .scVector .vmem S65536 .i32
  h5 : a5.IsWhole
  a6 : Memref sig .scVector .vmem S2048 .i32
  h6 : a6.IsWhole
  a7 : Memref sig .scVector .vmem S2048 .i32
  h7 : a7.IsWhole
  a8 : Memref sig .scVector .vmem S1024 .i32
  h8 : a8.IsWhole
  a9 : Memref sig .scVector .vmem S4096 .f32
  h9 : a9.IsWhole
  a10 : Memref sig .scVector .vmem S4096 .f32
  h10 : a10.IsWhole
  a11 : Memref sig .scVector .vmem S4096 .i32
  h11 : a11.IsWhole
  a12 : Memref sig .scVector .vmem S4096 .i32
  h12 : a12.IsWhole
  s13 : DmaSems sig S_
  s14 : DmaSems sig S_
  r0 : DmaSems sig S_
  r1 : DmaSems sig S_
  r2 : DmaSems sig S_

/-- A function of all of them, at them. -/
abbrev Args.app (a : Args) {β : Type 1} (f : ∀ (a2 : Memref sig .scVector .hbm S256x65536 .f32) (_ : a2.IsWhole)
    (a3 : Memref sig .scVector .hbm S256x65536 .i32) (_ : a3.IsWhole) (a4 : Memref sig .scVector .hbm S256x65536 .i32) (_ : a4.IsWhole)
    (a5 : Memref sig .scVector .vmem S65536 .i32) (_ : a5.IsWhole) (a6 : Memref sig .scVector .vmem S2048 .i32) (_ : a6.IsWhole)
    (a7 : Memref sig .scVector .vmem S2048 .i32) (_ : a7.IsWhole) (a8 : Memref sig .scVector .vmem S1024 .i32) (_ : a8.IsWhole)
    (a9 : Memref sig .scVector .vmem S4096 .f32) (_ : a9.IsWhole) (a10 : Memref sig .scVector .vmem S4096 .f32) (_ : a10.IsWhole)
    (a11 : Memref sig .scVector .vmem S4096 .i32) (_ : a11.IsWhole) (a12 : Memref sig .scVector .vmem S4096 .i32) (_ : a12.IsWhole)
    (_ _ _ _ _ : DmaSems sig S_), β) : β :=
  f a.a2 a.h2 a.a3 a.h3 a.a4 a.h4 a.a5 a.h5 a.a6 a.h6 a.a7 a.h7 a.a8 a.h8 a.a9 a.h9 a.a10 a.h10 a.a11 a.h11 a.a12 a.h12
    a.s13 a.s14 a.r0 a.r1 a.r2

variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (d : Dev nD) (i : grid0.Coords) (a : Args)

/-- The subcore at a position of the grid. -/
abbrev thr : Thread nD τ := (d, .scVector ((i 0).castLE hcore0) ((i 1).castLE hsub0))

local notation "𝕄" => MT nD τ sig Ix (Elt F) Name U Lvl

/-! ## The tables cleared, counted and totalled -/

/-- The pass by the low digit, over floats. -/
abbrev PassA (dest : Memref sig .scVector .vmem S65536 .i32) (hist : Memref sig .scVector .vmem S2048 .i32) (g : ℕ → Elt F .f32) (n : ℕ) : sProp 𝕄 :=
  Pass1 (thr d i) hist dest dgA (fun j => keyOf (g j)) n

/-- The pass by the middle digit, over keys. -/
abbrev PassB (dest : Memref sig .scVector .vmem S65536 .i32) (hist : Memref sig .scVector .vmem S2048 .i32) (g : ℕ → Elt F .i32) (n : ℕ) : sProp 𝕄 :=
  Pass1 (thr d i) hist dest dgB (fun j => g j) n

/-- The pass by the high digit, over keys. -/
abbrev PassC (dest : Memref sig .scVector .vmem S65536 .i32) (hist : Memref sig .scVector .vmem S1024 .i32) (g : ℕ → Elt F .i32) (n : ℕ) : sProp 𝕄 :=
  Pass1 (thr d i) hist dest dgC (fun j => g j) n

/-- The counting sweep, over floats. -/
abbrev SweepABC (g : ℕ → Elt F .f32) (n : ℕ) : sProp 𝕄 :=
  Sweep (thr d i) a.a6 a.a7 a.a8 dgA dgB dgC (fun j => keyOf (g j)) n

theorem passA0 (t1 : Fin k0_t1_loop.trips) (g : ℕ → Elt F .f32) (n0 : ℕ) (hn : n0 + 4096 ≤ 65536) :
    iprop(PassA d i a.a5 a.a6 g n0 ∗ Wn (thr d i) g a.a9 n0)
      ⊢ (wp frame (wpE defs 𝒱 (thr d i) bd) Set.univ (Scf.Loop.for k0_t12_loop k0_t12_ok 0#32 (a.app (k0_t12_body (F := F) i) t1))
        fun _ => iprop(PassA d i a.a5 a.a6 g (n0 + 4096) ∗ Wn (thr d i) g a.a9 n0) : sProp 𝕄) := by
  refine window_loop 𝒱 (thr d i) bd (by decide) fun t acc ht => ?_
  dsimp only [Args.app, k0_t12_body]
  simp only [Prog.lift, Prog.bind_op, Prog.bind_ret, Prog.pure_eq_ret]
  exact pass_trip 𝒱 (thr d i) bd (C1 := k0_chk7) (C2 := k0_chk8) (keyf := k0_pay29) (ixf := fun w => k0_pay30 w)
    (fun v h => k0_idx7_inb v h) (fun v h => k0_idx9_inb v h) (fun v h => k0_idx8_inb v h)
    (fun v h => ⟨h, h⟩) (fun v h => h) (fun _ => rfl) (fun _ => rfl) (fun _ => rfl) dgA_lt keyOf (fun _ _ => rfl) (fun v x => digA' _) g n0 hn ht (k0_off15_eq t) _

theorem passA1 (t1 : Fin k0_t1_loop.trips) (g : ℕ → Elt F .f32) (n0 : ℕ) (hn : n0 + 4096 ≤ 65536) :
    iprop(PassA d i a.a5 a.a6 g n0 ∗ Wn (thr d i) g a.a10 n0)
      ⊢ (wp frame (wpE defs 𝒱 (thr d i) bd) Set.univ (Scf.Loop.for k0_t13_loop k0_t13_ok 0#32 (a.app (k0_t13_body (F := F) i) t1))
        fun _ => iprop(PassA d i a.a5 a.a6 g (n0 + 4096) ∗ Wn (thr d i) g a.a10 n0) : sProp 𝕄) := by
  refine window_loop 𝒱 (thr d i) bd (by decide) fun t acc ht => ?_
  dsimp only [Args.app, k0_t13_body]
  simp only [Prog.lift, Prog.bind_op, Prog.bind_ret, Prog.pure_eq_ret]
  exact pass_trip 𝒱 (thr d i) bd (C1 := k0_chk9) (C2 := k0_chk10) (keyf := k0_pay35) (ixf := fun w => k0_pay36 w)
    (fun v h => k0_idx10_inb v h) (fun v h => k0_idx12_inb v h) (fun v h => k0_idx11_inb v h)
    (fun v h => ⟨h, h⟩) (fun v h => h) (fun _ => rfl) (fun _ => rfl) (fun _ => rfl) dgA_lt keyOf (fun _ _ => rfl) (fun v x => digA' _) g n0 hn ht (k0_off17_eq t) _

theorem passB0 (t1 : Fin k0_t1_loop.trips) (g : ℕ → Elt F .i32) (n0 : ℕ) (hn : n0 + 4096 ≤ 65536) :
    iprop(PassB d i a.a5 a.a7 g n0 ∗ Wn (thr d i) g a.a11 n0)
      ⊢ (wp frame (wpE defs 𝒱 (thr d i) bd) Set.univ (Scf.Loop.for k0_t15_loop k0_t15_ok 0#32 (a.app (k0_t15_body (F := F) i) t1))
        fun _ => iprop(PassB d i a.a5 a.a7 g (n0 + 4096) ∗ Wn (thr d i) g a.a11 n0) : sProp 𝕄) := by
  refine window_loop 𝒱 (thr d i) bd (by decide) fun t acc ht => ?_
  dsimp only [Args.app, k0_t15_body]
  simp only [Prog.lift, Prog.bind_op, Prog.bind_ret, Prog.pure_eq_ret]
  exact pass_trip 𝒱 (thr d i) bd (e := .i32) (C1 := k0_chk11) (C2 := k0_chk12) (keyf := fun (w : Vec F L16 .i32) => (w : IVec L16 32)) (ixf := fun w => k0_pay41 w)
    (fun v h => k0_idx13_inb v h) (fun v h => k0_idx15_inb v h) (fun v h => k0_idx14_inb v h)
    (fun v h => ⟨h, h⟩) (fun v h => h) (fun _ => rfl) (fun _ => rfl) (fun _ => rfl) dgB_lt (fun k => (k : BitVec 32)) (fun _ _ => rfl) (fun v x => digB _) g n0 hn ht (k0_off21_eq t) _

theorem passB1 (t1 : Fin k0_t1_loop.trips) (g : ℕ → Elt F .i32) (n0 : ℕ) (hn : n0 + 4096 ≤ 65536) :
    iprop(PassB d i a.a5 a.a7 g n0 ∗ Wn (thr d i) g a.a12 n0)
      ⊢ (wp frame (wpE defs 𝒱 (thr d i) bd) Set.univ (Scf.Loop.for k0_t16_loop k0_t16_ok 0#32 (a.app (k0_t16_body (F := F) i) t1))
        fun _ => iprop(PassB d i a.a5 a.a7 g (n0 + 4096) ∗ Wn (thr d i) g a.a12 n0) : sProp 𝕄) := by
  refine window_loop 𝒱 (thr d i) bd (by decide) fun t acc ht => ?_
  dsimp only [Args.app, k0_t16_body]
  simp only [Prog.lift, Prog.bind_op, Prog.bind_ret, Prog.pure_eq_ret]
  exact pass_trip 𝒱 (thr d i) bd (e := .i32) (C1 := k0_chk13) (C2 := k0_chk14) (keyf := fun (w : Vec F L16 .i32) => (w : IVec L16 32)) (ixf := fun w => k0_pay46 w)
    (fun v h => k0_idx16_inb v h) (fun v h => k0_idx18_inb v h) (fun v h => k0_idx17_inb v h)
    (fun v h => ⟨h, h⟩) (fun v h => h) (fun _ => rfl) (fun _ => rfl) (fun _ => rfl) dgB_lt (fun k => (k : BitVec 32)) (fun _ _ => rfl) (fun v x => digB _) g n0 hn ht (k0_off23_eq t) _

theorem passC0 (t1 : Fin k0_t1_loop.trips) (g : ℕ → Elt F .i32) (n0 : ℕ) (hn : n0 + 4096 ≤ 65536) :
    iprop(PassC d i a.a5 a.a8 g n0 ∗ Wn (thr d i) g a.a11 n0)
      ⊢ (wp frame (wpE defs 𝒱 (thr d i) bd) Set.univ (Scf.Loop.for k0_t18_loop k0_t18_ok 0#32 (a.app (k0_t18_body (F := F) i)))
        fun _ => iprop(PassC d i a.a5 a.a8 g (n0 + 4096) ∗ Wn (thr d i) g a.a11 n0) : sProp 𝕄) := by
  refine window_loop 𝒱 (thr d i) bd (by decide) fun t acc ht => ?_
  dsimp only [Args.app, k0_t18_body]
  simp only [Prog.lift, Prog.bind_op, Prog.bind_ret, Prog.pure_eq_ret]
  exact pass_trip 𝒱 (thr d i) bd (e := .i32) (C1 := k0_chk15) (C2 := k0_chk16) (keyf := fun (w : Vec F L16 .i32) => (w : IVec L16 32)) (ixf := fun w => k0_pay2 w)
    (fun v h => k0_idx19_inb v h) (fun v h => k0_idx21_inb v h) (fun v h => k0_idx20_inb v h)
    (fun v h => ⟨h, h⟩) (fun v h => h) (fun _ => rfl) (fun _ => rfl) (fun _ => rfl) dgC_lt (fun k => (k : BitVec 32)) (fun _ _ => rfl) (fun v x => digC _) g n0 hn ht (k0_off26_eq t) _

theorem passC1 (t1 : Fin k0_t1_loop.trips) (g : ℕ → Elt F .i32) (n0 : ℕ) (hn : n0 + 4096 ≤ 65536) :
    iprop(PassC d i a.a5 a.a8 g n0 ∗ Wn (thr d i) g a.a12 n0)
      ⊢ (wp frame (wpE defs 𝒱 (thr d i) bd) Set.univ (Scf.Loop.for k0_t19_loop k0_t19_ok 0#32 (a.app (k0_t19_body (F := F) i)))
        fun _ => iprop(PassC d i a.a5 a.a8 g (n0 + 4096) ∗ Wn (thr d i) g a.a12 n0) : sProp 𝕄) := by
  refine window_loop 𝒱 (thr d i) bd (by decide) fun t acc ht => ?_
  dsimp only [Args.app, k0_t19_body]
  simp only [Prog.lift, Prog.bind_op, Prog.bind_ret, Prog.pure_eq_ret]
  exact pass_trip 𝒱 (thr d i) bd (e := .i32) (C1 := k0_chk17) (C2 := k0_chk18) (keyf := fun (w : Vec F L16 .i32) => (w : IVec L16 32)) (ixf := fun w => k0_pay7 w)
    (fun v h => k0_idx22_inb v h) (fun v h => k0_idx24_inb v h) (fun v h => k0_idx23_inb v h)
    (fun v h => ⟨h, h⟩) (fun v h => h) (fun _ => rfl) (fun _ => rfl) (fun _ => rfl) dgC_lt (fun k => (k : BitVec 32)) (fun _ _ => rfl) (fun v x => digC _) g n0 hn ht (k0_off28_eq t) _

theorem sweep0 (v1 c0 c1 : BitVec 32) (t1 : Fin k0_t1_loop.trips) (g : ℕ → Elt F .f32) (n0 : ℕ) :
    iprop(SweepABC d i a g n0 ∗ Wn (thr d i) g a.a9 n0)
      ⊢ (wp frame (wpE defs 𝒱 (thr d i) bd) Set.univ (Scf.Loop.for k0_t6_loop k0_t6_ok ⟨⟩ (a.app (k0_t6_body (F := F) i) v1 k0_pay1 c0 c1 t1))
        fun _ => iprop(SweepABC d i a g (n0 + 4096) ∗ Wn (thr d i) g a.a9 n0) : sProp 𝕄) := by
  refine window_loop 𝒱 (thr d i) bd (by decide) fun t acc ht => ?_
  dsimp only [Args.app, k0_t6_body]
  simp only [Prog.lift, Prog.bind_op, Prog.bind_ret, Prog.pure_eq_ret]
  exact sweep_trip 𝒱 (thr d i) bd (C1 := k0_chk1) (C2 := k0_chk2) (C3 := k0_chk3)
    (x1 := fun w => k0_pay16 w) (x2 := fun w => k0_pay17 w) (x3 := fun w => k0_pay18 w)
    (fun v h => k0_idx1_inb v h) (fun v h => k0_idx2_inb v h) (fun v h => k0_idx3_inb v h)
    (fun v h => h) (fun v h => h) (fun v h => h) (fun _ => rfl) (fun _ => rfl) dgA_lt dgB_lt dgC_lt keyOf
    (fun v x => digA _) (fun v x => digB _) (fun v x => digC _) g n0 ht (k0_off7_eq t) _

theorem sweep1 (v1 c0 c1 : BitVec 32) (t1 : Fin k0_t1_loop.trips) (g : ℕ → Elt F .f32) (n0 : ℕ) :
    iprop(SweepABC d i a g n0 ∗ Wn (thr d i) g a.a10 n0)
      ⊢ (wp frame (wpE defs 𝒱 (thr d i) bd) Set.univ (Scf.Loop.for k0_t7_loop k0_t7_ok ⟨⟩ (a.app (k0_t7_body (F := F) i) v1 k0_pay1 c0 c1 t1))
        fun _ => iprop(SweepABC d i a g (n0 + 4096) ∗ Wn (thr d i) g a.a10 n0) : sProp 𝕄) := by
  refine window_loop 𝒱 (thr d i) bd (by decide) fun t acc ht => ?_
  dsimp only [Args.app, k0_t7_body]
  simp only [Prog.lift, Prog.bind_op, Prog.bind_ret, Prog.pure_eq_ret]
  exact sweep_trip 𝒱 (thr d i) bd (C1 := k0_chk4) (C2 := k0_chk5) (C3 := k0_chk6)
    (x1 := fun w => k0_pay20 w) (x2 := fun w => k0_pay21 w) (x3 := fun w => k0_pay22 w)
    (fun v h => k0_idx4_inb v h) (fun v h => k0_idx5_inb v h) (fun v h => k0_idx6_inb v h)
    (fun v h => h) (fun v h => h) (fun v h => h) (fun _ => rfl) (fun _ => rfl) dgA_lt dgB_lt dgC_lt keyOf
    (fun v x => digA _) (fun v x => digB _) (fun v x => digC _) g n0 ht (k0_off9_eq t) _

theorem clear6 (v1 c0 c1 : BitVec 32) (t1 : Fin k0_t1_loop.trips) (dg : BitVec 32 → ℕ) (K : ℕ → BitVec 32) {α : Type} {Q : α → sProp (MT nD τ sig Ix (Elt F) Name U Lvl)}
    {k : BitVec 32 → Prog (TpuEff nD τ sig (Elt F) Λ₀ (thr d i).2) α} :
    Any (thr d i) a.a6 ⊢ iprop((∀ y, At (thr d i) a.a6 fullShare (Cn 2048 dg K 0) -∗ wp frame (wpE defs 𝒱 (thr d i) bd) Set.univ (k y) Q)
      -∗ wp frame (wpE defs 𝒱 (thr d i) bd) Set.univ (Scf.Loop.for k0_t2_loop k0_t2_ok 0#32 (a.app (k0_t2_body (F := F) i) v1 k0_pay1 c0 c1 t1) >>= k) Q) := by
  refine zero_loop 𝒱 (thr d i) bd (n := 128) (by decide) rfl dg K fun t acc ht => ?_
  dsimp only [Args.app, k0_t2_body]
  simp only [Prog.lift, Prog.bind_op, Prog.bind_ret, Prog.pure_eq_ret]
  exact zero_trip 𝒱 (thr d i) bd ht (k0_off1_eq t) (fun _ => rfl) _

theorem clear7 (v1 c0 c1 : BitVec 32) (t1 : Fin k0_t1_loop.trips) (dg : BitVec 32 → ℕ) (K : ℕ → BitVec 32) {α : Type} {Q : α → sProp (MT nD τ sig Ix (Elt F) Name U Lvl)}
    {k : BitVec 32 → Prog (TpuEff nD τ sig (Elt F) Λ₀ (thr d i).2) α} :
    Any (thr d i) a.a7 ⊢ iprop((∀ y, At (thr d i) a.a7 fullShare (Cn 2048 dg K 0) -∗ wp frame (wpE defs 𝒱 (thr d i) bd) Set.univ (k y) Q)
      -∗ wp frame (wpE defs 𝒱 (thr d i) bd) Set.univ (Scf.Loop.for k0_t3_loop k0_t3_ok 0#32 (a.app (k0_t3_body (F := F) i) v1 k0_pay1 c0 c1 t1) >>= k) Q) := by
  refine zero_loop 𝒱 (thr d i) bd (n := 128) (by decide) rfl dg K fun t acc ht => ?_
  dsimp only [Args.app, k0_t3_body]
  simp only [Prog.lift, Prog.bind_op, Prog.bind_ret, Prog.pure_eq_ret]
  exact zero_trip 𝒱 (thr d i) bd ht (k0_off2_eq t) (fun _ => rfl) _

theorem clear8 (v1 c0 c1 : BitVec 32) (t1 : Fin k0_t1_loop.trips) (dg : BitVec 32 → ℕ) (K : ℕ → BitVec 32) {α : Type} {Q : α → sProp (MT nD τ sig Ix (Elt F) Name U Lvl)}
    {k : BitVec 32 → Prog (TpuEff nD τ sig (Elt F) Λ₀ (thr d i).2) α} :
    Any (thr d i) a.a8 ⊢ iprop((∀ y, At (thr d i) a.a8 fullShare (Cn 1024 dg K 0) -∗ wp frame (wpE defs 𝒱 (thr d i) bd) Set.univ (k y) Q)
      -∗ wp frame (wpE defs 𝒱 (thr d i) bd) Set.univ (Scf.Loop.for k0_t4_loop k0_t4_ok 0#32 (a.app (k0_t4_body (F := F) i) v1 k0_pay1 c0 c1 t1) >>= k) Q) := by
  refine zero_loop 𝒱 (thr d i) bd (n := 64) (by decide) rfl dg K fun t acc ht => ?_
  dsimp only [Args.app, k0_t4_body]
  simp only [Prog.lift, Prog.bind_op, Prog.bind_ret, Prog.pure_eq_ret]
  exact zero_trip 𝒱 (thr d i) bd ht (k0_off3_eq t) (fun _ => rfl) _

theorem total6 (v1 c0 c1 : BitVec 32) (t1 : Fin k0_t1_loop.trips) {dg : BitVec 32 → ℕ} {K : ℕ → BitVec 32} {N : ℕ} {α : Type} {Q : α → sProp (MT nD τ sig Ix (Elt F) Name U Lvl)}
    {k : BitVec 32 → Prog (TpuEff nD τ sig (Elt F) Λ₀ (thr d i).2) α} :
    At (thr d i) a.a6 fullShare (Cn 2048 dg K N) ⊢ iprop((∀ y, At (thr d i) a.a6 fullShare (Hn 2048 dg N K 0) -∗ wp frame (wpE defs 𝒱 (thr d i) bd) Set.univ (k y) Q)
      -∗ wp frame (wpE defs 𝒱 (thr d i) bd) Set.univ (Scf.Loop.for k0_t8_loop k0_t8_ok 0#32 (a.app (k0_t8_body (F := F) i) v1 k0_pay1 c0 c1 t1) >>= k) Q) := by
  refine total_loop 𝒱 (thr d i) bd (n := 128) (by decide) rfl fun t acc ht => ?_
  dsimp only [Args.app, k0_t8_body]
  simp only [Prog.lift, Prog.bind_op, Prog.bind_ret, Prog.pure_eq_ret]
  exact prefix_trip 𝒱 (thr d i) bd ht (k0_off10_eq t) acc

theorem total7 (v1 c0 c1 : BitVec 32) (t1 : Fin k0_t1_loop.trips) {dg : BitVec 32 → ℕ} {K : ℕ → BitVec 32} {N : ℕ} {α : Type} {Q : α → sProp (MT nD τ sig Ix (Elt F) Name U Lvl)}
    {k : BitVec 32 → Prog (TpuEff nD τ sig (Elt F) Λ₀ (thr d i).2) α} :
    At (thr d i) a.a7 fullShare (Cn 2048 dg K N) ⊢ iprop((∀ y, At (thr d i) a.a7 fullShare (Hn 2048 dg N K 0) -∗ wp frame (wpE defs 𝒱 (thr d i) bd) Set.univ (k y) Q)
      -∗ wp frame (wpE defs 𝒱 (thr d i) bd) Set.univ (Scf.Loop.for k0_t9_loop k0_t9_ok 0#32 (a.app (k0_t9_body (F := F) i) v1 k0_pay1 c0 c1 t1) >>= k) Q) := by
  refine total_loop 𝒱 (thr d i) bd (n := 128) (by decide) rfl fun t acc ht => ?_
  dsimp only [Args.app, k0_t9_body]
  simp only [Prog.lift, Prog.bind_op, Prog.bind_ret, Prog.pure_eq_ret]
  exact prefix_trip 𝒱 (thr d i) bd ht (k0_off11_eq t) acc

theorem total8 (v1 c0 c1 : BitVec 32) (t1 : Fin k0_t1_loop.trips) {dg : BitVec 32 → ℕ} {K : ℕ → BitVec 32} {N : ℕ} {α : Type} {Q : α → sProp (MT nD τ sig Ix (Elt F) Name U Lvl)}
    {k : BitVec 32 → Prog (TpuEff nD τ sig (Elt F) Λ₀ (thr d i).2) α} :
    At (thr d i) a.a8 fullShare (Cn 1024 dg K N) ⊢ iprop((∀ y, At (thr d i) a.a8 fullShare (Hn 1024 dg N K 0) -∗ wp frame (wpE defs 𝒱 (thr d i) bd) Set.univ (k y) Q)
      -∗ wp frame (wpE defs 𝒱 (thr d i) bd) Set.univ (Scf.Loop.for k0_t10_loop k0_t10_ok 0#32 (a.app (k0_t10_body (F := F) i) v1 k0_pay1 c0 c1 t1) >>= k) Q) := by
  refine total_loop 𝒱 (thr d i) bd (n := 64) (by decide) rfl fun t acc ht => ?_
  dsimp only [Args.app, k0_t10_body]
  simp only [Prog.lift, Prog.bind_op, Prog.bind_ret, Prog.pure_eq_ret]
  exact prefix_trip 𝒱 (thr d i) bd ht (k0_off12_eq t) acc

end Cert.Body
-- ==== Proof.Body.lean ====
/-
  The kernel's streams over a row, its two parts and its trips: each row of the input comes out sorted by key.
-/
module

public import proofs.«01_k».proof.Proof.Inner

@[expose] public section

noncomputable section

namespace Cert.Body

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.Cells Cert.Lanes Cert.Radix Cert.Trips Cert.Stream Cert.Passes

variable {F : FTy → Type} [BitOps F]
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (d : Dev nD) (i : grid0.Coords) (a : Args)
variable (EC : UEmb Counters (MT nD τ sig Ix (Elt F) Name U Lvl)) [Infinite Name]
  [EC.LandsIn (upEmb : UEmb _ (MT nD τ sig Ix (Elt F) Name U Lvl))]
variable (ι : Ix) (O : CellTallies nD τ sig Ix) (W : Waits sig Ix)

local notation "𝕄" => MT nD τ sig Ix (Elt F) Name U Lvl

/-- The row a trip sorts. -/
def rowOf (t1 : Fin k0_t1_loop.trips) : Fin 256 :=
  ⟨128 * (i 0).val + 8 * (i 1).val + t1.val, by
    have h0 : (i 0).val < 2 := (i 0).isLt
    have h1 : (i 1).val < 16 := (i 1).isLt
    have h2 : t1.val < 8 := t1.isLt
    omega⟩

/-! ## The streams' trips -/

theorem cond1 : ∀ t : Fin k0_t5_loop.trips, k0_cond1 t = 1#1 := by decide
theorem cond2 : ∀ t : Fin k0_t5_loop.trips, t.val + 1 < 8 → k0_cond2 t = 1#1 := by decide
theorem cond2_last : ∀ t : Fin k0_t5_loop.trips, ¬ t.val + 1 < 8 → ¬ k0_cond2 t = 1#1 := by decide
theorem cond3 : ∀ t : Fin k0_t11_loop.trips, k0_cond3 t = 1#1 := by decide
theorem cond4 : ∀ t : Fin k0_t11_loop.trips, t.val + 1 < 8 → k0_cond4 t = 1#1 := by decide
theorem cond4_last : ∀ t : Fin k0_t11_loop.trips, ¬ t.val + 1 < 8 → ¬ k0_cond4 t = 1#1 := by decide
theorem cond5 : ∀ t : Fin k0_t14_loop.trips, k0_cond5 t = 1#1 := by decide
theorem cond6 : ∀ t : Fin k0_t14_loop.trips, t.val + 1 < 8 → k0_cond6 t = 1#1 := by decide
theorem cond6_last : ∀ t : Fin k0_t14_loop.trips, ¬ t.val + 1 < 8 → ¬ k0_cond6 t = 1#1 := by decide
theorem cond7 : ∀ t : Fin k0_t17_loop.trips, k0_cond7 t = 1#1 := by decide
theorem cond8 : ∀ t : Fin k0_t17_loop.trips, t.val + 1 < 8 → k0_cond8 t = 1#1 := by decide
theorem cond8_last : ∀ t : Fin k0_t17_loop.trips, ¬ t.val + 1 < 8 → ¬ k0_cond8 t = 1#1 := by decide

theorem half_eq (t : ℕ) : 8192 * t + 4096 + 4096 = 8192 * (t + 1) := by omega

/-- The counting sweep over a row. -/
theorem sweep_row (v1 c0 c1 : BitVec 32) (t1 : Fin k0_t1_loop.trips) (g : ℕ → Elt F .f32) {α : Type} {Q : α → sProp (MT nD τ sig Ix (Elt F) Name U Lvl)}
    {k : Unit → Prog (TpuEff nD τ sig (Elt F) Λ₀ (thr d i).2) α} :
    Strm (thr d i) EC a.a2 a.a9 a.a10 a.s13.sem a.s14.sem (rowOf i t1) g ι O W (SweepABC d i a g) 0
      ⊢ iprop((∀ y, iprop(SweepABC d i a g 65536 ∗ Any (thr d i) a.a9 ∗ Any (thr d i) a.a10 ∗ Row (thr d i) a.a2 (rowOf i t1) fullShare g
            ∗ semVal (thr d i, .dma a.s13.sem) 0 ∗ semVal (thr d i, .dma a.s14.sem) 0 ∗ Owm (thr d i) ι O W)
          -∗ wp frame (wpE defs 𝒱 (thr d i) bd) Set.univ (k y) Q)
        -∗ wp frame (wpE defs 𝒱 (thr d i) bd) Set.univ (Scf.Loop.for k0_t5_loop k0_t5_ok ⟨⟩ (a.app (k0_t5_body (F := F) i) v1 k0_pay1 c0 c1 t1) >>= k) Q) := by
  refine stream_loop 𝒱 (thr d i) bd EC (by decide) fun t acc ht => ?_
  dsimp only [Args.app, k0_t5_body]
  simp only [Prog.lift, Prog.bind_op, Prog.bind_ret, Prog.pure_eq_ret]
  rw [dif_pos (cond1 t)]
  iintro H
  iapply (stream_first 𝒱 (thr d i) bd EC ht (k0_off5_eq i t1 t) (sweep0 𝒱 bd d i a v1 c0 c1 t1 g (8192 * t.val))) $$ H
  iintro %_ H
  by_cases hl : t.val + 1 < 8
  · rw [dif_pos (cond2 t hl)]
    iapply (stream_second 𝒱 (thr d i) bd EC hl (k0_off8_eq i t1 t) (half_eq t.val ▸ sweep1 𝒱 bd d i a v1 c0 c1 t1 g (8192 * t.val + 4096))) $$ H
    iintro %_ H
    rw [wp_ret]
    imodintro
    iexact H
  · rw [dif_neg (cond2_last t hl)]
    iapply (stream_last 𝒱 (thr d i) bd EC hl (half_eq t.val ▸ sweep1 𝒱 bd d i a v1 c0 c1 t1 g (8192 * t.val + 4096))) $$ H
    iintro %_ H
    rw [wp_ret]
    imodintro
    iexact H

/-- The pass by the low digit over a row. -/
theorem passA_row (t1 : Fin k0_t1_loop.trips) (g : ℕ → Elt F .f32) {α : Type} {Q : α → sProp (MT nD τ sig Ix (Elt F) Name U Lvl)}
    {k : Unit → Prog (TpuEff nD τ sig (Elt F) Λ₀ (thr d i).2) α} :
    Strm (thr d i) EC a.a2 a.a9 a.a10 a.s13.sem a.s14.sem (rowOf i t1) g ι O W (PassA d i a.a5 a.a6 g) 0
      ⊢ iprop((∀ y, iprop(PassA d i a.a5 a.a6 g 65536 ∗ Any (thr d i) a.a9 ∗ Any (thr d i) a.a10 ∗ Row (thr d i) a.a2 (rowOf i t1) fullShare g
            ∗ semVal (thr d i, .dma a.s13.sem) 0 ∗ semVal (thr d i, .dma a.s14.sem) 0 ∗ Owm (thr d i) ι O W)
          -∗ wp frame (wpE defs 𝒱 (thr d i) bd) Set.univ (k y) Q)
        -∗ wp frame (wpE defs 𝒱 (thr d i) bd) Set.univ (Scf.Loop.for k0_t11_loop k0_t11_ok ⟨⟩ (a.app (k0_t11_body (F := F) i) t1) >>= k) Q) := by
  refine stream_loop 𝒱 (thr d i) bd EC (by decide) fun t acc ht => ?_
  dsimp only [Args.app, k0_t11_body]
  simp only [Prog.lift, Prog.bind_op, Prog.bind_ret, Prog.pure_eq_ret]
  rw [dif_pos (cond3 t)]
  iintro H
  iapply (stream_first 𝒱 (thr d i) bd EC ht (k0_off13_eq i t1 t) (passA0 𝒱 bd d i a t1 g (8192 * t.val) (by omega))) $$ H
  iintro %_ H
  by_cases hl : t.val + 1 < 8
  · rw [dif_pos (cond4 t hl)]
    iapply (stream_second 𝒱 (thr d i) bd EC hl (k0_off16_eq i t1 t) (half_eq t.val ▸ passA1 𝒱 bd d i a t1 g (8192 * t.val + 4096) (by omega))) $$ H
    iintro %_ H
    rw [wp_ret]
    imodintro
    iexact H
  · rw [dif_neg (cond4_last t hl)]
    iapply (stream_last 𝒱 (thr d i) bd EC hl (half_eq t.val ▸ passA1 𝒱 bd d i a t1 g (8192 * t.val + 4096) (by omega))) $$ H
    iintro %_ H
    rw [wp_ret]
    imodintro
    iexact H

/-- The pass by the middle digit over a row. -/
theorem passB_row (t1 : Fin k0_t1_loop.trips) (g : ℕ → Elt F .i32) {α : Type} {Q : α → sProp (MT nD τ sig Ix (Elt F) Name U Lvl)}
    {k : Unit → Prog (TpuEff nD τ sig (Elt F) Λ₀ (thr d i).2) α} :
    Strm (thr d i) EC a.a4 a.a11 a.a12 a.s13.sem a.s14.sem (rowOf i t1) g ι O W (PassB d i a.a5 a.a7 g) 0
      ⊢ iprop((∀ y, iprop(PassB d i a.a5 a.a7 g 65536 ∗ Any (thr d i) a.a11 ∗ Any (thr d i) a.a12 ∗ Row (thr d i) a.a4 (rowOf i t1) fullShare g
            ∗ semVal (thr d i, .dma a.s13.sem) 0 ∗ semVal (thr d i, .dma a.s14.sem) 0 ∗ Owm (thr d i) ι O W)
          -∗ wp frame (wpE defs 𝒱 (thr d i) bd) Set.univ (k y) Q)
        -∗ wp frame (wpE defs 𝒱 (thr d i) bd) Set.univ (Scf.Loop.for k0_t14_loop k0_t14_ok ⟨⟩ (a.app (k0_t14_body (F := F) i) t1) >>= k) Q) := by
  refine stream_loop 𝒱 (thr d i) bd EC (by decide) fun t acc ht => ?_
  dsimp only [Args.app, k0_t14_body]
  simp only [Prog.lift, Prog.bind_op, Prog.bind_ret, Prog.pure_eq_ret]
  rw [dif_pos (cond5 t)]
  iintro H
  iapply (stream_first 𝒱 (thr d i) bd EC ht (k0_off19_eq i t1 t) (passB0 𝒱 bd d i a t1 g (8192 * t.val) (by omega))) $$ H
  iintro %_ H
  by_cases hl : t.val + 1 < 8
  · rw [dif_pos (cond6 t hl)]
    iapply (stream_second 𝒱 (thr d i) bd EC hl (k0_off22_eq i t1 t) (half_eq t.val ▸ passB1 𝒱 bd d i a t1 g (8192 * t.val + 4096) (by omega))) $$ H
    iintro %_ H
    rw [wp_ret]
    imodintro
    iexact H
  · rw [dif_neg (cond6_last t hl)]
    iapply (stream_last 𝒱 (thr d i) bd EC hl (half_eq t.val ▸ passB1 𝒱 bd d i a t1 g (8192 * t.val + 4096) (by omega))) $$ H
    iintro %_ H
    rw [wp_ret]
    imodintro
    iexact H

/-- The pass by the high digit over a row. -/
theorem passC_row (t1 : Fin k0_t1_loop.trips) (g : ℕ → Elt F .i32) {α : Type} {Q : α → sProp (MT nD τ sig Ix (Elt F) Name U Lvl)}
    {k : Unit → Prog (TpuEff nD τ sig (Elt F) Λ₀ (thr d i).2) α} :
    Strm (thr d i) EC a.a4 a.a11 a.a12 a.s13.sem a.s14.sem (rowOf i t1) g ι O W (PassC d i a.a5 a.a8 g) 0
      ⊢ iprop((∀ y, iprop(PassC d i a.a5 a.a8 g 65536 ∗ Any (thr d i) a.a11 ∗ Any (thr d i) a.a12 ∗ Row (thr d i) a.a4 (rowOf i t1) fullShare g
            ∗ semVal (thr d i, .dma a.s13.sem) 0 ∗ semVal (thr d i, .dma a.s14.sem) 0 ∗ Owm (thr d i) ι O W)
          -∗ wp frame (wpE defs 𝒱 (thr d i) bd) Set.univ (k y) Q)
        -∗ wp frame (wpE defs 𝒱 (thr d i) bd) Set.univ (Scf.Loop.for k0_t17_loop k0_t17_ok ⟨⟩ (a.app (k0_t17_body (F := F) i) t1) >>= k) Q) := by
  refine stream_loop 𝒱 (thr d i) bd EC (by decide) fun t acc ht => ?_
  dsimp only [Args.app, k0_t17_body]
  simp only [Prog.lift, Prog.bind_op, Prog.bind_ret, Prog.pure_eq_ret]
  rw [dif_pos (cond7 t)]
  iintro H
  iapply (stream_first 𝒱 (thr d i) bd EC ht (k0_off24_eq i t1 t) (passC0 𝒱 bd d i a t1 g (8192 * t.val) (by omega))) $$ H
  iintro %_ H
  by_cases hl : t.val + 1 < 8
  · rw [dif_pos (cond8 t hl)]
    iapply (stream_second 𝒱 (thr d i) bd EC hl (k0_off27_eq i t1 t) (half_eq t.val ▸ passC1 𝒱 bd d i a t1 g (8192 * t.val + 4096) (by omega))) $$ H
    iintro %_ H
    rw [wp_ret]
    imodintro
    iexact H
  · rw [dif_neg (cond8_last t hl)]
    iapply (stream_last 𝒱 (thr d i) bd EC hl (half_eq t.val ▸ passC1 𝒱 bd d i a t1 g (8192 * t.val + 4096) (by omega))) $$ H
    iintro %_ H
    rw [wp_ret]
    imodintro
    iexact H

end Cert.Body
-- ==== Proof.Tile.lean ====
/-
  A trip of the kernel's outer loop: one row of the input comes out sorted by key.
-/
module

public import proofs.«01_k».proof.Proof.Body

@[expose] public section

noncomputable section

namespace Cert.Tile

open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem
open Cert.Kernel Cert.Kernel.Gen
open Cert.Cells Cert.Lanes Cert.Radix Cert.Trips Cert.Stream Cert.Passes Cert.Body

variable {F : FTy → Type} [BitOps F]
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (d : Dev nD) (i : grid0.Coords) (a : Args)
variable (EC : UEmb Counters (MT nD τ sig Ix (Elt F) Name U Lvl)) [Infinite Name]
  [EC.LandsIn (upEmb : UEmb _ (MT nD τ sig Ix (Elt F) Name U Lvl))]
variable (ι : Ix) (O : CellTallies nD τ sig Ix) (W : Waits sig Ix)

local notation "𝕄" => MT nD τ sig Ix (Elt F) Name U Lvl

/-! ## The beginning and the end of a pass -/

section Ends

variable {B : ℕ} (c : Thread nD τ) {hist : Memref sig c.2.kind .vmem (Tbl B) .i32} {dest : Memref sig c.2.kind .vmem (Tbl 65536) .i32}
  {dg : BitVec 32 → ℕ} {K K' : ℕ → BitVec 32}

/-- The totals taken over keys with the same multiset begin a pass. -/
theorem pass_begin (h : (Multiset.range 65536).map K' = (Multiset.range 65536).map K) :
    iprop(Any c dest ∗ At c hist fullShare (Hn B dg 65536 K 0)) ⊢ (Pass1 c hist dest dg K' 0 : sProp 𝕄) := by
  have he : Hn (F := F) B dg 65536 K 0 = Hn B dg 65536 K' 0 := by
    funext j
    unfold Hn
    rw [pre_congr dg h, cnt_zero, cnt_zero]
  unfold Pass1 Dst Any
  rw [he]
  iintro ⟨⟨%g, Hd⟩, Hh⟩
  isplitl [Hd]
  · iexists g
    isplitr [Hd]
    rotate_left
    · iexact Hd
    · ipureintro
      intro i hi
      exact absurd hi (Nat.not_lt_zero i)
  · iexact Hh

/-- A finished pass has every key at its place. -/
theorem pass_end : (Pass1 c hist dest dg K 65536 : sProp 𝕄)
    ⊢ iprop(∃ K₁ : ℕ → BitVec 32, ⌜Pass dg 65536 K K₁⌝ ∗ At c dest fullShare (fun x => K₁ (x 0).val) ∗ Any c hist) := by
  unfold Pass1 Dst
  iintro ⟨⟨%g, %hg, Hd⟩, Hh⟩
  have hK : ∀ x : (Tbl 65536).Idx, g x = (fun n => if h : n < 65536 then g (Shape.ofLane (d := ![65536]) (⟨n, h⟩ : Fin 65536)) else 0) (x 0).val := by
    intro x
    have hx : (x 0).val < 65536 := (x 0).isLt
    show g x = dite _ _ _
    rw [dif_pos hx]
    exact congrArg g (tbl_ext rfl)
  iexists fun n => if h : n < 65536 then g (Shape.ofLane (d := ![65536]) (⟨n, h⟩ : Fin 65536)) else 0
  isplitr [Hd Hh]
  · ipureintro
    intro i hi
    have hp := pos_lt dg 65536 K hi
    show dite _ _ _ = _
    rw [dif_pos hp]
    exact hg i hi _ rfl
  · isplitl [Hd]
    · iapply (Entails.of_eq (congrArg (At c dest fullShare) (funext hK))) $$ Hd
    · iapply (any_intro c hist _) $$ Hh

end Ends

/-! ## The two parts -/

/-- The buffers and cells a stream of the input uses, and its row. -/
def XS (r : Fin 256) (g : ℕ → Elt F .f32) : sProp 𝕄 :=
  iprop(Any (thr d i) a.a9 ∗ Any (thr d i) a.a10 ∗ Row (thr d i) a.a2 r fullShare g)

/-- The buffers a stream of keys uses. -/
def KS : sProp 𝕄 := iprop(Any (thr d i) a.a11 ∗ Any (thr d i) a.a12)

/-- The cells of the streams, and what the subcore owes. -/
def Cells2 : sProp 𝕄 :=
  iprop(semVal (thr d i, .dma a.s13.sem) 0 ∗ semVal (thr d i, .dma a.s14.sem) 0 ∗ Owm (thr d i) ι O W)

include EC in
/-- The first part makes the three tables of totals of a row. -/
theorem part1 (v1 c0 c1 : BitVec 32) (t1 : Fin k0_t1_loop.trips) (g : ℕ → Elt F .f32) :
    iprop((Any (thr d i) a.a6 ∗ Any (thr d i) a.a7 ∗ Any (thr d i) a.a8) ∗ XS d i a (rowOf i t1) g ∗ Cells2 d i a ι O W)
      ⊢ (wp frame (wpE defs 𝒱 (thr d i) bd) Set.univ (a.app (k0_part1 (F := F) i) v1 k0_pay1 c0 c1 t1) fun _ =>
        iprop((At (thr d i) a.a6 fullShare (Hn 2048 dgA 65536 (fun j => keyOf (g j)) 0) ∗ At (thr d i) a.a7 fullShare (Hn 2048 dgB 65536 (fun j => keyOf (g j)) 0)
          ∗ At (thr d i) a.a8 fullShare (Hn 1024 dgC 65536 (fun j => keyOf (g j)) 0)) ∗ XS d i a (rowOf i t1) g ∗ Cells2 d i a ι O W) : sProp 𝕄) := by
  unfold XS Cells2
  rw [k0_part1_eq_skeleton]
  dsimp only [Args.app, k0_part1_skel]
  simp only [Prog.lift, Prog.bind_op, Prog.bind_ret, Prog.pure_eq_ret]
  iintro ⟨⟨H6, H7, H8⟩, ⟨H9, H10, HX⟩, Hs, Ht, HO⟩
  iapply (clear6 𝒱 bd d i a v1 c0 c1 t1 dgA fun j => keyOf (g j)) $$ H6
  iintro %_ H6
  iapply (clear7 𝒱 bd d i a v1 c0 c1 t1 dgB fun j => keyOf (g j)) $$ H7
  iintro %_ H7
  iapply (clear8 𝒱 bd d i a v1 c0 c1 t1 dgC fun j => keyOf (g j)) $$ H8
  iintro %_ H8
  iapply (stream_start 𝒱 (thr d i) bd EC a.a2 a.a9 a.a10 a.s13.sem a.s14.sem (rowOf i t1) g ι O W (SweepABC d i a g) (k0_off4_eq i t1)) $$ [H6 H7 H8 H9 H10 HX Hs Ht HO]
  · isplitl [H6 H7 H8]
    · unfold SweepABC Sweep
      isplitl [H6]; · iexact H6
      isplitl [H7]; · iexact H7
      iexact H8
    isplitl [H9]; · iexact H9
    isplitl [H10]; · iexact H10
    isplitl [HX]; · iexact HX
    isplitl [Hs]; · iexact Hs
    isplitl [Ht]; · iexact Ht
    iexact HO
  iintro H
  iapply (sweep_row 𝒱 bd d i a EC ι O W v1 c0 c1 t1 g) $$ H
  iintro %_ ⟨HC, H⟩
  unfold SweepABC Sweep
  icases HC with ⟨H6, H7, H8⟩
  icases H with ⟨H9, H10, HX, Hs, Ht, HO⟩
  iapply (total6 𝒱 bd d i a v1 c0 c1 t1) $$ H6
  iintro %_ H6
  iapply (total7 𝒱 bd d i a v1 c0 c1 t1) $$ H7
  iintro %_ H7
  iapply (total8 𝒱 bd d i a v1 c0 c1 t1) $$ H8
  iintro %_ H8
  rw [wp_ret]
  imodintro
  isplitl [H6 H7 H8]
  · isplitl [H6]; · iexact H6
    isplitl [H7]; · iexact H7
    iexact H8
  isplitl [H9 H10 HX]
  · isplitl [H9]; · iexact H9
    isplitl [H10]; · iexact H10
    iexact HX
  isplitl [Hs]; · iexact Hs
  isplitl [Ht]; · iexact Ht
  iexact HO

include EC in
/-- The second part sorts a row by its low and middle digits into the row of the scratch array. -/
theorem part2 (t1 : Fin k0_t1_loop.trips) (g : ℕ → Elt F .f32) (g4 : ℕ → Elt F .i32) :
    iprop((At (thr d i) a.a6 fullShare (Hn 2048 dgA 65536 (fun j => keyOf (g j)) 0) ∗ At (thr d i) a.a7 fullShare (Hn 2048 dgB 65536 (fun j => keyOf (g j)) 0))
        ∗ Any (thr d i) a.a5 ∗ XS d i a (rowOf i t1) g ∗ KS d i a ∗ Row (thr d i) a.a4 (rowOf i t1) fullShare g4
        ∗ (semVal (thr d i, .dma a.r0.sem) 0 ∗ semVal (thr d i, .dma a.r1.sem) 0) ∗ Cells2 d i a ι O W)
      ⊢ (wp frame (wpE defs 𝒱 (thr d i) bd) Set.univ (a.app (k0_part2 (F := F) i) t1) fun _ =>
        iprop(∃ K₁ K₂ : ℕ → BitVec 32, ⌜Pass dgA 65536 (fun j => keyOf (g j)) K₁ ∧ Pass dgB 65536 K₁ K₂⌝
          ∗ (Any (thr d i) a.a6 ∗ Any (thr d i) a.a7) ∗ Any (thr d i) a.a5 ∗ XS d i a (rowOf i t1) g ∗ KS d i a
          ∗ Row (thr d i) a.a4 (rowOf i t1) fullShare (K₂ : ℕ → Elt F .i32)
          ∗ (semVal (thr d i, .dma a.r0.sem) 0 ∗ semVal (thr d i, .dma a.r1.sem) 0) ∗ Cells2 d i a ι O W) : sProp 𝕄) := by
  unfold XS KS Cells2
  rw [k0_part2_eq_skeleton]
  dsimp only [Args.app, k0_part2_skel]
  simp only [Prog.lift, Prog.bind_op, Prog.bind_ret, Prog.pure_eq_ret]
  iintro ⟨⟨H6, H7⟩, H5, ⟨H9, H10, HX⟩, ⟨H11, H12⟩, H4, ⟨Hr0, Hr1⟩, Hs, Ht, HO⟩
  iapply (stream_start 𝒱 (thr d i) bd EC a.a2 a.a9 a.a10 a.s13.sem a.s14.sem (rowOf i t1) g ι O W (PassA d i a.a5 a.a6 g) (k0_off4_eq i t1)) $$ [H5 H6 H9 H10 HX Hs Ht HO]
  · isplitl [H5 H6]
    · iapply (pass_begin (thr d i) rfl)
      isplitl [H5]; · iexact H5
      iexact H6
    isplitl [H9]; · iexact H9
    isplitl [H10]; · iexact H10
    isplitl [HX]; · iexact HX
    isplitl [Hs]; · iexact Hs
    isplitl [Ht]; · iexact Ht
    iexact HO
  iintro H
  iapply (passA_row 𝒱 bd d i a EC ι O W t1 g) $$ H
  iintro %_ ⟨HC, H9, H10, HX, Hs, Ht, HO⟩
  ihave HC := (pass_end (thr d i)) $$ HC
  icases HC with ⟨%K₁, %hK₁, H5, H6⟩
  iapply (row_write 𝒱 (thr d i) bd EC ι (rowOf i t1) (k0_off18_eq i t1) K₁ (fun _ => rfl)) $$ [H5 H4 Hr0 HO]
  · isplitl [H5]; · iexact H5
    isplitl [H4]; · iexact H4
    isplitl [Hr0]; · iexact Hr0
    iexact HO
  iintro ⟨H5, H4, Hr0, HO⟩
  ihave H5 := (any_intro (thr d i) a.a5 _) $$ H5
  iapply (stream_start 𝒱 (thr d i) bd EC a.a4 a.a11 a.a12 a.s13.sem a.s14.sem (rowOf i t1) K₁ ι O W (PassB d i a.a5 a.a7 K₁) (k0_off4_eq i t1)) $$ [H5 H7 H11 H12 H4 Hs Ht HO]
  · isplitl [H5 H7]
    · iapply (pass_begin (thr d i) hK₁.multiset)
      isplitl [H5]; · iexact H5
      iexact H7
    isplitl [H11]; · iexact H11
    isplitl [H12]; · iexact H12
    isplitl [H4]; · iexact H4
    isplitl [Hs]; · iexact Hs
    isplitl [Ht]; · iexact Ht
    iexact HO
  iintro H
  iapply (passB_row 𝒱 bd d i a EC ι O W t1 K₁) $$ H
  iintro %_ ⟨HC, H11, H12, H4, Hs, Ht, HO⟩
  ihave HC := (pass_end (thr d i)) $$ HC
  icases HC with ⟨%K₂, %hK₂, H5, H7⟩
  iapply (row_write 𝒱 (thr d i) bd EC ι (rowOf i t1) (k0_off18_eq i t1) K₂ (fun _ => rfl)) $$ [H5 H4 Hr1 HO]
  · isplitl [H5]; · iexact H5
    isplitl [H4]; · iexact H4
    isplitl [Hr1]; · iexact Hr1
    iexact HO
  iintro ⟨H5, H4, Hr1, HO⟩
  ihave H5 := (any_intro (thr d i) a.a5 _) $$ H5
  rw [wp_ret]
  imodintro
  iexists K₁, K₂
  isplitr [H5 H6 H7 H9 H10 HX H11 H12 H4 Hr0 Hr1 Hs Ht HO]
  · ipureintro; exact ⟨hK₁, hK₂⟩
  isplitl [H6 H7]
  · isplitl [H6]; · iexact H6
    iexact H7
  isplitl [H5]; · iexact H5
  isplitl [H9 H10 HX]
  · isplitl [H9]; · iexact H9
    isplitl [H10]; · iexact H10
    iexact HX
  isplitl [H11 H12]
  · isplitl [H11]; · iexact H11
    iexact H12
  isplitl [H4]; · iexact H4
  isplitl [Hr0 Hr1]
  · isplitl [Hr0]; · iexact Hr0
    iexact Hr1
  isplitl [Hs]; · iexact Hs
  isplitl [Ht]; · iexact Ht
  iexact HO

/-! ## A trip -/

/-- `K` holds the keys of `g`'s floats in order. -/
def SortedOf (g : ℕ → Elt F .f32) (K : ℕ → BitVec 32) : Prop :=
  (Multiset.range 65536).map K = (Multiset.range 65536).map (fun j => keyOf (g j)) ∧ ∀ i j, i ≤ j → j < 65536 → K i ≤ K j

/-- A subcore's scratch and its cells, with nothing running. -/
def Own : sProp 𝕄 :=
  iprop((Any (thr d i) a.a5 ∗ Any (thr d i) a.a6 ∗ Any (thr d i) a.a7 ∗ Any (thr d i) a.a8 ∗ Any (thr d i) a.a9 ∗ Any (thr d i) a.a10 ∗ KS d i a)
    ∗ (semVal (thr d i, .dma a.r0.sem) 0 ∗ semVal (thr d i, .dma a.r1.sem) 0 ∗ semVal (thr d i, .dma a.r2.sem) 0) ∗ Cells2 d i a ι O W)

/-- The three rows of a trip before it. -/
def Before (r : Fin 256) (g : ℕ → Elt F .f32) : sProp 𝕄 :=
  iprop(Row (thr d i) a.a2 r fullShare g ∗ (∃ g3, Row (thr d i) a.a3 r fullShare g3) ∗ ∃ g4, Row (thr d i) a.a4 r fullShare g4)

/-- The three rows of a trip after it. -/
def After (r : Fin 256) (g : ℕ → Elt F .f32) : sProp 𝕄 :=
  iprop(Row (thr d i) a.a2 r fullShare g ∗ (∃ K : ℕ → BitVec 32, ⌜SortedOf g K⌝ ∗ Row (thr d i) a.a3 r fullShare (K : ℕ → Elt F .i32))
    ∗ ∃ g4, Row (thr d i) a.a4 r fullShare g4)

include EC in
/-- A trip sorts its row. -/
theorem trip (v1 : BitVec 32) (t1 : Fin k0_t1_loop.trips) (acc : BitVec 32) (g : ℕ → Elt F .f32) :
    iprop(Own d i a ι O W ∗ Before d i a (rowOf i t1) g)
      ⊢ (wp frame (wpE defs 𝒱 (thr d i) bd) Set.univ (a.app (k0_t1_body (F := F) i) v1 t1 acc) fun _ =>
        iprop(Own d i a ι O W ∗ After d i a (rowOf i t1) g) : sProp 𝕄) := by
  unfold Own Before After
  dsimp only [Args.app, k0_t1_body]
  simp only [Prog.lift, Prog.bind_op, Prog.bind_ret, Prog.pure_eq_ret]
  iintro ⟨⟨⟨H5, H6, H7, H8, H9, H10, HK⟩, ⟨Hr0, Hr1, Hr2⟩, HC⟩, HX, ⟨%g3, H3⟩, ⟨%g4, H4⟩⟩
  rw [wp_bind]
  iapply (wp_wand frame (wpE defs 𝒱 (thr d i) bd) Set.univ) $$ [H6 H7 H8 H9 H10 HX HC]
  · iapply (part1 𝒱 bd d i a EC ι O W v1 0#32 1#32 t1 g)
    unfold XS
    isplitl [H6 H7 H8]
    · isplitl [H6]; · iexact H6
      isplitl [H7]; · iexact H7
      iexact H8
    isplitl [H9 H10 HX]
    · isplitl [H9]; · iexact H9
      isplitl [H10]; · iexact H10
      iexact HX
    iexact HC
  iintro %_ ⟨⟨H6, H7, H8⟩, HX, HC⟩
  rw [wp_bind]
  iapply (wp_wand frame (wpE defs 𝒱 (thr d i) bd) Set.univ) $$ [H5 H6 H7 HX HK H4 Hr0 Hr1 HC]
  · iapply (part2 𝒱 bd d i a EC ι O W t1 g g4)
    isplitl [H6 H7]
    · isplitl [H6]; · iexact H6
      iexact H7
    isplitl [H5]; · iexact H5
    isplitl [HX]; · iexact HX
    isplitl [HK]; · iexact HK
    isplitl [H4]; · iexact H4
    isplitl [Hr0 Hr1]
    · isplitl [Hr0]; · iexact Hr0
      iexact Hr1
    iexact HC
  iintro %_ ⟨%K₁, %K₂, %hK, ⟨H6, H7⟩, H5, HX, HK, H4, ⟨Hr0, Hr1⟩, HC⟩
  unfold XS KS Cells2
  icases HX with ⟨H9, H10, HX⟩
  icases HK with ⟨H11, H12⟩
  icases HC with ⟨Hs, Ht, HO⟩
  iapply (stream_start 𝒱 (thr d i) bd EC a.a4 a.a11 a.a12 a.s13.sem a.s14.sem (rowOf i t1) K₂ ι O W (PassC d i a.a5 a.a8 K₂) (k0_off4_eq i t1)) $$ [H5 H8 H11 H12 H4 Hs Ht HO]
  · isplitl [H5 H8]
    · iapply (pass_begin (thr d i) (hK.2.multiset.trans hK.1.multiset))
      isplitl [H5]; · iexact H5
      iexact H8
    isplitl [H11]; · iexact H11
    isplitl [H12]; · iexact H12
    isplitl [H4]; · iexact H4
    isplitl [Hs]; · iexact Hs
    isplitl [Ht]; · iexact Ht
    iexact HO
  iintro H
  iapply (passC_row 𝒱 bd d i a EC ι O W t1 K₂) $$ H
  iintro %_ ⟨HC, H11, H12, H4, Hs, Ht, HO⟩
  ihave HC := (pass_end (thr d i)) $$ HC
  icases HC with ⟨%K₃, %hK₃, H5, H8⟩
  iapply (row_write 𝒱 (thr d i) bd EC ι (rowOf i t1) (k0_off18_eq i t1) K₃ (fun _ => rfl)) $$ [H5 H3 Hr2 HO]
  · isplitl [H5]; · iexact H5
    isplitl [H3]; · iexact H3
    isplitl [Hr2]; · iexact Hr2
    iexact HO
  iintro ⟨H5, H3, Hr2, HO⟩
  ihave H5 := (any_intro (thr d i) a.a5 _) $$ H5
  rw [wp_ret]
  imodintro
  isplitl [H5 H6 H7 H8 H9 H10 H11 H12 Hr0 Hr1 Hr2 Hs Ht HO]
  · isplitl [H5 H6 H7 H8 H9 H10 H11 H12]
    · isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [Hr0 Hr1 Hr2]
    · isplitl [Hr0]; · iexact Hr0
      isplitl [Hr1]; · iexact Hr1
      iexact Hr2
    isplitl [Hs]; · iexact Hs
    isplitl [Ht]; · iexact Ht
    iexact HO
  isplitl [HX]; · iexact HX
  isplitl [H3]
  · iexists K₃
    isplitr [H3]
    rotate_left
    · iexact H3
    · ipureintro
      exact three_passes hK.1 hK.2 hK₃
  · iexists (K₂ : ℕ → Elt F .i32)
    iexact H4

/-! ## The whole loop -/

/-- The rows of trip `j` once `n` trips are done. -/
def RowsAt (X : Fin 256 → ℕ → Elt F .f32) (n : ℕ) (j : Fin k0_t1_loop.trips) : sProp 𝕄 :=
  if j.val < n then After d i a (rowOf i j) (X (rowOf i j)) else Before d i a (rowOf i j) (X (rowOf i j))

include EC in
theorem rows_trip (v1 : BitVec 32) (t1 : Fin k0_t1_loop.trips) (acc : BitVec 32) (X : Fin 256 → ℕ → Elt F .f32) :
    iprop(Own d i a ι O W ∗ bigSep Finset.univ (RowsAt (Ix := Ix) (Name := Name) (U := U) (Lvl := Lvl) d i a X t1.val))
      ⊢ (wp frame (wpE defs 𝒱 (thr d i) bd) Set.univ (a.app (k0_t1_body (F := F) i) v1 t1 acc) fun _ =>
        iprop(Own d i a ι O W ∗ bigSep Finset.univ (RowsAt d i a X (t1.val + 1))) : sProp 𝕄) := by
  have h0 : RowsAt (Ix := Ix) (Name := Name) (U := U) (Lvl := Lvl) d i a X t1.val t1 = Before d i a (rowOf i t1) (X (rowOf i t1)) :=
    if_neg (lt_irrefl _)
  have h1 : RowsAt (Ix := Ix) (Name := Name) (U := U) (Lvl := Lvl) d i a X (t1.val + 1) t1 = After d i a (rowOf i t1) (X (rowOf i t1)) :=
    if_pos (Nat.lt_succ_self _)
  have hr : bigSep (Finset.univ.erase t1) (RowsAt (Ix := Ix) (Name := Name) (U := U) (Lvl := Lvl) d i a X t1.val)
      = bigSep (Finset.univ.erase t1) (RowsAt d i a X (t1.val + 1)) := by
    refine bigSep_congr fun j hj => ?_
    have hne : j.val ≠ t1.val := fun h => (Finset.mem_erase.mp hj).1 (Fin.ext h)
    unfold RowsAt
    by_cases h : j.val < t1.val
    · rw [if_pos h, if_pos (by omega)]
    · rw [if_neg h, if_neg (by omega)]
  have e (n : ℕ) : bigSep Finset.univ (RowsAt (Ix := Ix) (Name := Name) (U := U) (Lvl := Lvl) d i a X n)
      = iprop(RowsAt d i a X n t1 ∗ bigSep (Finset.univ.erase t1) (RowsAt d i a X n)) := bigSep_univ_split t1
  rw [e, e, h0, h1, hr]
  iintro ⟨HO, HB, HR⟩
  iapply (wp_wand frame (wpE defs 𝒱 (thr d i) bd) Set.univ) $$ [HO HB]
  · iapply (trip 𝒱 bd d i a EC ι O W v1 t1 acc (X (rowOf i t1)))
    isplitl [HO]; · iexact HO
    iexact HB
  iintro %_ ⟨HO, HA⟩
  isplitl [HO]; · iexact HO
  isplitl [HA]; · iexact HA
  iexact HR

include EC in
/-- The kernel's body sorts the eight rows of its subcore. -/
theorem body (X : Fin 256 → ℕ → Elt F .f32) :
    iprop(Own d i a ι O W ∗ bigSep Finset.univ fun j => Before (Ix := Ix) (Name := Name) (U := U) (Lvl := Lvl) d i a (rowOf i j) (X (rowOf i j)))
      ⊢ (wp frame (wpE defs 𝒱 (thr d i) bd) Set.univ (a.app (cc0__sw_sc (F := F) i)) fun _ =>
        iprop(Own d i a ι O W ∗ bigSep Finset.univ fun j => After d i a (rowOf i j) (X (rowOf i j))) : sProp 𝕄) := by
  rw [cc0__sw_sc_eq_skeleton]
  dsimp only [Args.app, cc0__sw_sc_skel]
  simp only [Prog.pure_eq_ret]
  iintro ⟨HO, HB⟩
  iapply (Scf.wp_for_bind frame (wpE defs 𝒱 (thr d i) bd) Set.univ k0_t1_loop.lb k0_t1_loop.ub k0_t1_loop.st k0_t1_ok 0#32 _
    (fun n _ => iprop(Own d i a ι O W ∗ bigSep Finset.univ (RowsAt d i a X n)))
    fun t acc => rows_trip 𝒱 bd d i a EC ι O W _ t acc X) $$ [HO HB]
  · isplitl [HO]; · iexact HO
    iapply (Entails.of_eq (bigSep_congr fun j _ => (if_neg (Nat.not_lt_zero _)).symm)) $$ HB
  iintro %_ ⟨HO, HA⟩
  rw [wp_ret]
  imodintro
  isplitl [HO]; · iexact HO
  have e : bigSep Finset.univ (RowsAt (Ix := Ix) (Name := Name) (U := U) (Lvl := Lvl) d i a X (Scf.trips k0_t1_loop.lb k0_t1_loop.ub k0_t1_loop.st))
      = bigSep Finset.univ fun j => After d i a (rowOf i j) (X (rowOf i j)) := bigSep_congr fun j _ => if_pos j.isLt
  rw [← e]
  iexact HA

end Cert.Tile
-- ==== Proof.Launch.lean ====
/-
  The program's launch: the input transposed by the TensorCore, its rows dealt out to the subcores of the two
  SparseCores with the rows of the two arrays the kernel writes, and the rows gathered again, every row sorted.
-/
module

public import proofs.«01_k».proof.Proof.Tile
public import Idealize.ShloMosaic.Lib.Pipeline.Kit
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Launch

open Cert.Kernel Cert.Kernel.Gen
open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Cert.Cells Cert.Lanes Cert.Radix Cert.Trips Cert.Stream Cert.Passes Cert.Body Cert.Tile

variable {F : FTy → Type} [BitOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

variable (m : (ℓ : Loc nD τ sig) → Buf (Elt F) ℓ) (ρ : Dev nD → PrngReg)

/-! ## The arrays and their rows -/

abbrev xLoc (d : Dev nD) : Loc nD τ sig := (SparseCore.T d).loc main_arg0
abbrev tLoc (d : Dev nD) : Loc nD τ sig := (SparseCore.T d).loc main_v0
abbrev aLoc (d : Dev nD) : Loc nD τ sig := (SparseCore.T d).loc main_v1_0
abbrev bLoc (d : Dev nD) : Loc nD τ sig := (SparseCore.T d).loc main_v1_1

/-- What every subcore's task is handed. -/
abbrev A0 : Args where
  a2 := Memref.whole main_v0_scv
  h2 := Memref.isWhole_whole _
  a3 := Memref.whole main_v1_0_scv
  h3 := Memref.isWhole_whole _
  a4 := Memref.whole main_v1_1_scv
  h4 := Memref.isWhole_whole _
  a5 := Memref.whole cc0_scratch0
  h5 := Memref.isWhole_whole _
  a6 := Memref.whole cc0_scratch1
  h6 := Memref.isWhole_whole _
  a7 := Memref.whole cc0_scratch2
  h7 := Memref.isWhole_whole _
  a8 := Memref.whole cc0_scratch3
  h8 := Memref.isWhole_whole _
  a9 := Memref.whole cc0_scratch4
  h9 := Memref.isWhole_whole _
  a10 := Memref.whole cc0_scratch5
  h10 := Memref.isWhole_whole _
  a11 := Memref.whole cc0_scratch6
  h11 := Memref.isWhole_whole _
  a12 := Memref.whole cc0_scratch7
  h12 := Memref.isWhole_whole _
  s13 := cc0_scratch8
  s14 := cc0_scratch9
  r0 := cc0_scoped0
  r1 := cc0_scoped1
  r2 := cc0_scoped2

/-- The position of subcore `s` of SparseCore `c`. -/
def pos (c : Fin (grid0.bound 0)) (s : Fin (grid0.bound 1)) : grid0.Coords :=
  fun | 0 => c | 1 => s | ⟨_ + 2, h⟩ => absurd h (Nat.not_lt.2 (Nat.le_add_left _ _))

/-- The trips of all the subcores. -/
abbrev Trip : Type := Fin (grid0.bound 0) × Fin (grid0.bound 1) × Fin k0_t1_loop.trips

/-- The row of a trip. -/
abbrev rowAt (t : Trip) : Fin 256 := rowOf (pos t.1 t.2.1) t.2.2

theorem rowAt_val (t : Trip) : (rowAt t).val = 128 * t.1.val + 8 * t.2.1.val + t.2.2.val := rfl

theorem rowAt_injective : Function.Injective rowAt := by
  rintro ⟨c, s, j⟩ ⟨c', s', j'⟩ h
  have h := congrArg Fin.val h
  change 128 * c.val + 8 * s.val + j.val = 128 * c'.val + 8 * s'.val + j'.val at h
  have hs : s.val < 16 := s.isLt
  have hs' : s'.val < 16 := s'.isLt
  have hj : j.val < 8 := j.isLt
  have hj' : j'.val < 8 := j'.isLt
  obtain rfl : c = c' := Fin.ext (by omega)
  obtain rfl : s = s' := Fin.ext (by omega)
  obtain rfl : j = j' := Fin.ext (by omega)
  rfl

theorem rowAt_surjective : Function.Surjective rowAt := by
  intro r
  have hr : r.val < 256 := r.isLt
  refine ⟨(⟨r.val / 128, ?_⟩, ⟨r.val % 128 / 8, ?_⟩, ⟨r.val % 8, ?_⟩), Fin.ext ?_⟩
  · show r.val / 128 < 2; omega
  · show r.val % 128 / 8 < 16; omega
  · show r.val % 8 < 8; omega
  · rw [rowAt_val]; dsimp only; omega

section Rows

variable {e : EltTy} (A : Memref sig .scVector .hbm Arr e)

theorem rows_disjoint : ∀ t ∈ (Finset.univ : Finset Trip), ∀ t' ∈ (Finset.univ : Finset Trip), t ≠ t' → Disjoint (rowSet A (rowAt t)) (rowSet A (rowAt t')) := by
  intro t _ t' _ h
  refine (Finset.disjoint_map _).mpr (Finset.disjoint_left.mpr fun y h1 h2 => h (rowAt_injective (Fin.ext ?_)))
  exact (Finset.mem_filter.mp h1).2.symm.trans (Finset.mem_filter.mp h2).2

theorem rows_cover (hA : A.IsWhole) : (Finset.univ : Finset Trip).biUnion (fun t => rowSet A (rowAt t)) = Finset.univ := by
  refine Finset.eq_univ_of_forall fun y => ?_
  have hy : y ∈ A.view.set := hA.set_eq_univ ▸ Finset.mem_univ y
  obtain ⟨x, -, rfl⟩ := Finset.mem_map.mp hy
  obtain ⟨t, ht⟩ := rowAt_surjective ⟨(x 0).val, (x 0).isLt⟩
  refine Finset.mem_biUnion.mpr ⟨t, Finset.mem_univ t, A.view.mem_setOn.mpr (Finset.mem_filter.mpr ⟨Finset.mem_univ x, ?_⟩)⟩
  rw [ht]

end Rows

/-- The input with its axes exchanged. -/
def xT (d : Dev nD) : S256x65536.Idx → Elt F .f32 :=
  (transpose S256x65536 [1, 0] · transposes_S65536x256_S256x65536_1_0 : (⟨S65536x256, .f32⟩ : BufTy).Contents (Elt F) → (⟨S256x65536, .f32⟩ : BufTy).Contents (Elt F))
    (m (xLoc d))

/-- A row of the input. -/
def X (d : Dev nD) (r : Fin 256) (k : ℕ) : Elt F .f32 := xT m d (cell r k)

/-- An array of words with every row the row's keys in order. -/
def Good (d : Dev nD) (g : S256x65536.Idx → Elt F .i32) : Prop := ∀ r : Fin 256, SortedOf (X m d r) (fun k => g (cell r k))

/-- The rows of a trip before it, and after it. -/
abbrev Bef (d : Dev nD) (c : Fin (grid0.bound 0)) (s : Fin (grid0.bound 1)) (j : Fin k0_t1_loop.trips) : sProp 𝕄 :=
  Before d (pos c s) A0 (rowOf (pos c s) j) (X m d (rowOf (pos c s) j))
abbrev Aft (d : Dev nD) (c : Fin (grid0.bound 0)) (s : Fin (grid0.bound 1)) (j : Fin k0_t1_loop.trips) : sProp 𝕄 :=
  After d (pos c s) A0 (rowOf (pos c s) j) (X m d (rowOf (pos c s) j))

theorem row_give (d : Dev nD) (t : Trip) (f : Buf (Elt F) (tLoc d)) (hf : f = xT m d) :
    (tLoc d ↦[rowSet A0.a2 (rowAt t)]{fullShare} f : sProp 𝕄) ⊢ Row (thr d (pos t.1 t.2.1)) A0.a2 (rowAt t) fullShare (X m d (rowAt t)) := by
  unfold Row
  iintro H
  iexists f
  isplitr [H]
  · ipureintro
    intro k _
    subst hf
    rfl
  · iexact H

theorem row_some (d : Dev nD) (t : Trip) (A : Memref sig .scVector .hbm Arr .i32) (f : Buf (Elt F) (A.view.loc (thr d (pos t.1 t.2.1)))) :
    (A.view.loc (thr d (pos t.1 t.2.1)) ↦[rowSet A (rowAt t)]{fullShare} f : sProp 𝕄) ⊢ iprop(∃ g, Row (thr d (pos t.1 t.2.1)) A (rowAt t) fullShare g) := by
  unfold Row
  iintro H
  iexists (fun k => A.view.read (Elt F) f (cell (rowAt t) k))
  iexists f
  isplitr [H]
  · ipureintro
    intro k _
    rfl
  · iexact H

theorem deal_row (d : Dev nD) (f : Buf (Elt F) (tLoc d)) (hf : f = xT m d) (fa : Buf (Elt F) (aLoc d)) (fb : Buf (Elt F) (bLoc d)) (t : Trip) :
    iprop((tLoc d ↦[rowSet A0.a2 (rowAt t)]{fullShare} f) ∗ (aLoc d ↦[rowSet A0.a3 (rowAt t)]{fullShare} fa) ∗ (bLoc d ↦[rowSet A0.a4 (rowAt t)]{fullShare} fb))
      ⊢ (Bef m d t.1 t.2.1 t.2.2 : sProp 𝕄) := by
  unfold Bef Tile.Before
  iintro ⟨Ht, Ha, Hb⟩
  isplitl [Ht]
  · iapply (row_give m d t f hf); iexact Ht
  isplitl [Ha]
  · iapply (row_some d t A0.a3 fa); iexact Ha
  · iapply (row_some d t A0.a4 fb); iexact Hb

/-- The three arrays are the rows of all trips before them. -/
theorem deal (d : Dev nD) (f : Buf (Elt F) (tLoc d)) (hf : f = xT m d) (fa : Buf (Elt F) (aLoc d)) (fb : Buf (Elt F) (bLoc d)) :
    iprop((tLoc d ↦{fullShare} f) ∗ (aLoc d ↦{fullShare} fa) ∗ (bLoc d ↦{fullShare} fb))
      ⊢ (bigSep Finset.univ fun t : Trip => Bef m d t.1 t.2.1 t.2.2 : sProp 𝕄) := by
  have ht : (tLoc d ↦{fullShare} f : sProp 𝕄) = bigSep Finset.univ fun t : Trip => tLoc d ↦[rowSet A0.a2 (rowAt t)]{fullShare} f := by
    rw [← rows_cover A0.a2 A0.h2, pointsTo_biUnion (ℓ := tLoc d) Finset.univ _ (rows_disjoint A0.a2)]
  have ha : (aLoc d ↦{fullShare} fa : sProp 𝕄) = bigSep Finset.univ fun t : Trip => aLoc d ↦[rowSet A0.a3 (rowAt t)]{fullShare} fa := by
    rw [← rows_cover A0.a3 A0.h3, pointsTo_biUnion (ℓ := aLoc d) Finset.univ _ (rows_disjoint A0.a3)]
  have hb : (bLoc d ↦{fullShare} fb : sProp 𝕄) = bigSep Finset.univ fun t : Trip => bLoc d ↦[rowSet A0.a4 (rowAt t)]{fullShare} fb := by
    rw [← rows_cover A0.a4 A0.h4, pointsTo_biUnion (ℓ := bLoc d) Finset.univ _ (rows_disjoint A0.a4)]
  rw [ht, ha, hb, ← bigSep_sep', ← bigSep_sep']
  exact bigSep_mono fun t _ => deal_row m d f hf fa fb t

/-- A trip leaves its row of keys in order. -/
theorem row_take (d : Dev nD) (t : Trip) :
    (Aft m d t.1 t.2.1 t.2.2 : sProp 𝕄)
      ⊢ iprop(∃ f : Buf (Elt F) (aLoc d), ⌜SortedOf (X m d (rowAt t)) (fun k => (f (cell (rowAt t) k) : BitVec 32))⌝ ∗ aLoc d ↦[rowSet A0.a3 (rowAt t)]{fullShare} f) := by
  unfold Aft After Row
  iintro ⟨-, ⟨%K, %hK, %f, %hf, H⟩, -⟩
  iexists f
  isplitr [H]
  · ipureintro
    have hf' : ∀ k < 65536, (f (cell (rowAt t) k) : BitVec 32) = K k := hf
    refine ⟨?_, fun i j hij hj => ?_⟩
    · rw [← hK.1]
      exact Multiset.map_congr rfl fun k hk => hf' k (Multiset.mem_range.mp hk)
    · show @LE.le (BitVec 32) _ (f (cell (rowAt t) i)) (f (cell (rowAt t) j))
      rw [hf' i (by omega), hf' j hj]
      exact hK.2 i j hij hj
  · iexact H

/-- The rows of all trips after them make the array of sorted rows. -/
theorem gather [Nonempty (Elt F .i32)] (d : Dev nD) :
    (bigSep Finset.univ fun t : Trip => Aft m d t.1 t.2.1 t.2.2 : sProp 𝕄)
      ⊢ iprop(∃ g : Buf (Elt F) (aLoc d), ⌜Good m d g⌝ ∗ aLoc d ↦{fullShare} g) := by
  refine BIBase.Entails.trans (bigSep_mono fun t _ => row_take m d t) ?_
  haveI : Nonempty (Buf (Elt F) (aLoc d)) := ⟨fun _ => (0 : BitVec 32)⟩
  refine BIBase.Entails.trans (bigSep_exists_pi Finset.univ (fun (t : Trip) (f : Buf (Elt F) (aLoc d)) =>
    iprop(⌜SortedOf (X m d (rowAt t)) (fun k => (f (cell (rowAt t) k) : BitVec 32))⌝ ∗ aLoc d ↦[rowSet A0.a3 (rowAt t)]{fullShare} f))) ?_
  iintro ⟨%fs, H⟩
  ihave H := (bigSep_pure_sep Finset.univ (fun t : Trip => SortedOf (X m d (rowAt t)) (fun k => (fs t (cell (rowAt t) k) : BitVec 32)))
    (fun t => aLoc d ↦[rowSet A0.a3 (rowAt t)]{fullShare} fs t)) $$ H
  icases H with ⟨%hs, H⟩
  ihave H := (pointsTo_biUnion_join (ℓ := aLoc d) Finset.univ (fun t : Trip => rowSet A0.a3 (rowAt t)) fs (fun _ => (0 : BitVec 32)) (rows_disjoint A0.a3)) $$ H
  icases H with ⟨%g, %hg, H⟩
  rw [rows_cover A0.a3 A0.h3]
  iexists g
  isplitr [H]
  · ipureintro
    intro r
    obtain ⟨t, rfl⟩ := rowAt_surjective r
    have e : (fun k => (g (cell (rowAt t) k) : BitVec 32)) = fun k => (fs t (cell (rowAt t) k) : BitVec 32) := by
      funext k
      exact hg t (Finset.mem_univ t) _ (A0.a3.view.mem_setOn.mpr (Finset.mem_filter.mpr ⟨Finset.mem_univ (cell (rowAt t) k), rfl⟩))
    rw [e]
    exact hs t (Finset.mem_univ t)
  · iexact H

/-! ## What the handshakes carry -/

/-- Each SparseCore is handed the rows of its subcores, each subcore its own, and they bring them back in order. -/
def P : (K (F := F)).Pay (nD := nD) (Val := Elt F) (Name := ℕ) (U := UU) where
  st := fun q d c => match q with
    | 0 => bigSep Finset.univ fun s : Fin (grid0.bound 1) => bigSep Finset.univ fun j => Bef m d c s j
  dn := fun q d c => match q with
    | 0 => bigSep Finset.univ fun s : Fin (grid0.bound 1) => bigSep Finset.univ fun j => Aft m d c s j
  go := fun q d c s => match q with | 0 => bigSep Finset.univ fun j => Bef m d c s j
  td := fun q d c s => match q with | 0 => bigSep Finset.univ fun j => Aft m d c s j
  x := fun _ _ => iprop(emp)

instance row_storable {e : EltTy} (c : Thread nD τ) (A : Memref sig c.2.kind .hbm Arr e) (r : Fin 256) (q : PosShare TreeShare) (g : ℕ → Elt F e) :
    BI.Storable (upEmb : UEmb _ 𝕄) (Row c A r q g) := by
  unfold Row
  infer_instance

instance before_storable (d : Dev nD) (i : grid0.Coords) (a : Args) (r : Fin 256) (g : ℕ → Elt F .f32) : BI.Storable (upEmb : UEmb _ 𝕄) (Before d i a r g) := by
  unfold Tile.Before
  infer_instance

instance after_storable (d : Dev nD) (i : grid0.Coords) (a : Args) (r : Fin 256) (g : ℕ → Elt F .f32) : BI.Storable (upEmb : UEmb _ 𝕄) (After d i a r g) := by
  unfold After
  infer_instance

instance P_storable : (P (F := F) m).IsStorable where
  st q d c := match q with
    | 0 => (inferInstance : BI.Storable (upEmb : UEmb _ 𝕄)
        (bigSep Finset.univ fun s : Fin (grid0.bound 1) => bigSep Finset.univ fun j => Bef m d c s j))
  dn q d c := match q with
    | 0 => (inferInstance : BI.Storable (upEmb : UEmb _ 𝕄)
        (bigSep Finset.univ fun s : Fin (grid0.bound 1) => bigSep Finset.univ fun j => Aft m d c s j))
  go q d c s := match q with
    | 0 => (inferInstance : BI.Storable (upEmb : UEmb _ 𝕄) (bigSep Finset.univ fun j => Bef m d c s j))
  td q d c s := match q with
    | 0 => (inferInstance : BI.Storable (upEmb : UEmb _ 𝕄) (bigSep Finset.univ fun j => Aft m d c s j))

theorem vecSplit : (K (F := F)).VecSplit' (P m) 0 := by
  intro d c
  show (bigSep Finset.univ fun s : Fin (grid0.bound 1) => bigSep Finset.univ fun j => Bef m d c s j) ⊢ |={Set.univ}=> iprop(
      (bigSep Finset.univ fun s : Fin (grid0.bound 1) => bigSep Finset.univ fun j => Bef m d c s j)
      ∗ ((bigSep Finset.univ fun s : Fin (grid0.bound 1) => bigSep Finset.univ fun j => Aft m d c s j)
          -∗ bigSep Finset.univ fun s : Fin (grid0.bound 1) => bigSep Finset.univ fun j => Aft m d c s j))
  iintro H
  imodintro
  isplitl [H]
  · iexact H
  iintro H
  iexact H

/-! ## The subcores' scratch -/

section Tile

variable (d : Dev nD) (L : grid0.Coords)

abbrev cV (L : grid0.Coords) : Fin τ.nSC := (L 0).castLE hcore0
abbrev jV (L : grid0.Coords) : Fin τ.nSub := (L 1).castLE hsub0

def scratch : Finset (Ref sig .scVector) :=
  {cc0_scratch0, cc0_scratch1, cc0_scratch2, cc0_scratch3, cc0_scratch4, cc0_scratch5, cc0_scratch6, cc0_scratch7}

def sems : Finset (SemLoc sig) :=
  {.dma cc0_scoped0.sem, .dma cc0_scoped1.sem, .dma cc0_scoped2.sem, .dma cc0_scratch8.sem, .dma cc0_scratch9.sem}

def scratchAt : Finset (DevRef τ sig) := scratch.map ⟨(Proc.scVector (cV L) (jV L)).devRef, Proc.devRef_injective _⟩

def semsAt : Finset (GSem nD τ sig) := sems.map ⟨fun s => (V d (cV L) (jV L), s), fun _ _ h => (Prod.mk.inj h).2⟩

theorem scratchAt_subset : scratchAt L ⊆ ownRefs (τ := τ) (.scVector (cV L) (jV L)) := by
  intro b hb
  obtain ⟨r, hr, rfl⟩ := Finset.mem_map.mp hb
  unfold scratch at hr
  simp only [Finset.mem_insert, Finset.mem_singleton] at hr
  rcases hr with rfl | rfl | rfl | rfl | rfl | rfl | rfl | rfl <;>
    exact SparseCore.Cfg.mem_ownRefs_of_owner (p := Proc.scVector (cV L) (jV L)) rfl

theorem semsAt_subset : semsAt d L ⊆ ownCells (V d (cV L) (jV L)) := by
  intro g hg
  obtain ⟨s, hs, rfl⟩ := Finset.mem_map.mp hg
  have h : ∀ s ∈ sems, s.isScoped .scVector = true := by decide
  exact mem_ownCells.mpr ⟨rfl, h s hs⟩

theorem any_of {b : Ref sig .scVector} : iprop(∃ f, (thr d L).loc b ↦{fullShare} f) ⊢ (Any (thr d L) (Memref.whole b) : sProp 𝕄) := by
  unfold Any
  iintro ⟨%f, H⟩
  iexists ((Memref.whole b).view.read (Elt F) f)
  iapply (at_intro (thr d L) (Memref.whole b) fullShare f)
  rw [(Memref.isWhole_whole b).set_eq_univ]
  iexact H

theorem any_elim {b : Ref sig .scVector} : (Any (thr d L) (Memref.whole b) : sProp 𝕄) ⊢ iprop(∃ f, (thr d L).loc b ↦{fullShare} f) := by
  unfold Any At
  iintro ⟨%g, %f, -, H⟩
  rw [(Memref.isWhole_whole b).set_eq_univ]
  iexists f
  iexact H

theorem any_eq {b : Ref sig .scVector} : (iprop(∃ f, (thr d L).loc b ↦{fullShare} f) : sProp 𝕄) = Any (thr d L) (Memref.whole b) :=
  BI.equiv_iff.mp ⟨any_of d L, any_elim d L⟩

theorem ownBufs_V :
    (ownBufs (V d (cV L) (jV L)) : sProp 𝕄)
      = iprop((Any (thr d L) A0.a5 ∗ Any (thr d L) A0.a6 ∗ Any (thr d L) A0.a7 ∗ Any (thr d L) A0.a8 ∗ Any (thr d L) A0.a9 ∗ Any (thr d L) A0.a10
            ∗ Any (thr d L) A0.a11 ∗ Any (thr d L) A0.a12)
          ∗ bigSep (ownRefs (τ := τ) (.scVector (cV L) (jV L)) \ scratchAt L) fun b => iprop(∃ f, ((d, b) : Loc nD τ sig) ↦{fullShare} f)) := by
  unfold SparseCore.Cfg.ownBufs
  refine (SparseCore.bigSep_sdiff_split' (scratchAt_subset L)).trans ?_
  have e : (bigSep (scratchAt L) fun b => iprop(∃ f, ((d, b) : Loc nD τ sig) ↦{fullShare} f) : sProp 𝕄)
      = bigSep scratch fun b => Any (thr d L) (Memref.whole b) :=
    (bigSep_map _).trans (bigSep_congr fun b _ => any_eq d L)
  rw [e]
  unfold scratch
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem ownSems0_V :
    (ownSems0 (V d (cV L) (jV L)) : sProp 𝕄)
      = iprop((semVal (thr d L, .dma cc0_scoped0.sem) 0 ∗ semVal (thr d L, .dma cc0_scoped1.sem) 0 ∗ semVal (thr d L, .dma cc0_scoped2.sem) 0
            ∗ semVal (thr d L, .dma cc0_scratch8.sem) 0 ∗ semVal (thr d L, .dma cc0_scratch9.sem) 0)
          ∗ bigSep (ownCells (V d (cV L) (jV L)) \ semsAt d L) fun g => semVal g 0) := by
  unfold SparseCore.Cfg.ownSems0
  refine (SparseCore.bigSep_sdiff_split' (semsAt_subset d L)).trans ?_
  have e : (bigSep (semsAt d L) fun g => semVal g 0 : sProp 𝕄) = bigSep sems fun s => semVal (thr d L, s) 0 := bigSep_map _
  rw [e]
  unfold sems
  rw [SparseCore.bigSep_insert' (by decide), SparseCore.bigSep_insert' (by decide), SparseCore.bigSep_insert' (by decide), SparseCore.bigSep_insert' (by decide),
    bigSep_singleton]

/-- The task of one subcore. -/
theorem tile_body (hF : (K (F := F)).Facts) (c : Fin (grid0.bound 0)) (s : Fin (grid0.bound 1)) (O : CellTallies nD τ sig (HIx 1)) (W : Waits sig (HIx 1))
    (hO : ∀ g, O g none = 0) :
    iprop(levAts (K (F := F)).L (K (F := F)).lev ∗ emp ∗ (bigSep Finset.univ fun j => Bef m d c s j)
        ∗ scopedBufs (thr d (pos c s)) ∗ scopedSems0 (thr d (pos c s)) ∗ owes (thr d (pos c s)) O W)
      ⊢ wp frame (wpE (defs₀ (F := F)) 𝒱₀ (thr d (pos c s)) none) Set.univ (A0.app (cc0__sw_sc (F := F) (pos c s)))
          fun _ => iprop((bigSep Finset.univ fun j => Aft m d c s j) ∗ scopedBufs (thr d (pos c s)) ∗ scopedSems0 (thr d (pos c s))
            ∗ ∃ W', ⌜∀ p ∈ W', p ∈ W ∨ p.2 = none⌝ ∗ owes (thr d (pos c s)) O W') := by
  rw [(K (F := F)).scopedBufs_V hF d (cV (pos c s)) (jV (pos c s)), SparseCore.Cfg.scopedSems0_V (Val := Elt F) d (cV (pos c s)) (jV (pos c s)), ownSems0_V, ownBufs_V]
  iintro ⟨#Hlv, -, Hrows, ⟨⟨H5, H6, H7, H8, H9, H10, H11, H12⟩, Hbufs⟩, ⟨⟨Hr0, Hr1, Hr2, Hs13, Hs14⟩, Hsems⟩, HO⟩
  ihave Hwp := (Cert.Tile.body 𝒱₀ none d (pos c s) A0 EC (none : HIx 1) O W (X m d)) $$ [Hrows H5 H6 H7 H8 H9 H10 H11 H12 Hr0 Hr1 Hr2 Hs13 Hs14 HO]
  · isplitr [Hrows]
    · unfold Own KS Cells2 Owm Ow
      isplitl [H5 H6 H7 H8 H9 H10 H11 H12]
      · isplitl [H5]; · iexact H5
        isplitl [H6]; · iexact H6
        isplitl [H7]; · iexact H7
        isplitl [H8]; · iexact H8
        isplitl [H9]; · iexact H9
        isplitl [H10]; · iexact H10
        isplitl [H11] <;> iassumption
      isplitl [Hr0 Hr1 Hr2]
      · isplitl [Hr0]; · iexact Hr0
        isplitl [Hr1] <;> iassumption
      isplitl [Hs13]; · iexact Hs13
      isplitl [Hs14]; · iexact Hs14
      isplitl [HO]
      · iexists W
        isplitr [HO]
        · ipureintro
          exact fun p hp => .inl hp
        · iexact HO
      · iapply ((K (F := F)).mayWaits_none hO)
        iexact Hlv
    · iexact Hrows
  iapply (wp_wand _ _ _) $$ Hwp
  iintro %u ⟨HOwn, Hrows⟩
  unfold Own KS Cells2 Owm Ow
  icases HOwn with ⟨⟨H5, H6, H7, H8, H9, H10, H11, H12⟩, ⟨Hr0, Hr1, Hr2⟩, Hs13, Hs14, HO, -⟩
  isplitl [Hrows]
  · iexact Hrows
  isplitl [H5 H6 H7 H8 H9 H10 H11 H12 Hbufs]
  · isplitr [Hbufs]
    · isplitl [H5]; · iexact H5
      isplitl [H6]; · iexact H6
      isplitl [H7]; · iexact H7
      isplitl [H8]; · iexact H8
      isplitl [H9]; · iexact H9
      isplitl [H10]; · iexact H10
      isplitl [H11] <;> iassumption
    · iexact Hbufs
  isplitl [Hr0 Hr1 Hr2 Hs13 Hs14 Hsems]
  · isplitr [Hsems]
    · isplitl [Hr0]; · iexact Hr0
      isplitl [Hr1]; · iexact Hr1
      isplitl [Hr2]; · iexact Hr2
      isplitl [Hs13] <;> iassumption
    · iexact Hsems
  iexact HO

end Tile

theorem defs₀_vector (c : Fin τ.nSC) (s : Fin τ.nSub) :
    defs₀ (F := F) (.scVector c s) 0 ()
      = SparseCore.onTile hcore0 hsub0 (fun c s => A0.app (cc0__sw_sc (F := F) (pos c s))) ⟨⟩ c s := rfl

/-- The waits of a task are among those the launch allows. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d hF ⟨_, hc.1⟩ ⟨_, hc.2⟩ O W hO).trans (wp_mono frame _ _ fun _ => obl_post)

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  have e : (bigSep Finset.univ fun t : Thread nD τ => bigSep Finset.univ fun q : Fin 1 => (P (F := F) m).x q t) = (iprop(emp) : sProp 𝕄) :=
    (bigSep_congr fun t _ => bigSep_emp' _).trans (bigSep_emp' _)
  rw [e, bigSep_emp']
  isplitl <;> iempintro

/-! ## @main on the TensorCore -/

abbrev x' : DevRef τ sig := (Proc.tc : Proc τ).devRef main_arg0
abbrev t' : DevRef τ sig := (Proc.tc : Proc τ).devRef main_v0

def S4 : Finset (DevRef τ sig) :=
  {x', t', (Proc.tc : Proc τ).devRef main_v1_0, (Proc.tc : Proc τ).devRef main_v1_1}

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_v0) ∗ (aLoc d ↦{fullShare} W main_v1_0) ∗ bLoc d ↦{fullShare} W main_v1_1) := by
  unfold unscopedBufs
  rw [show (Finset.univ.filter fun b : Ref sig .tc => ¬ b.isScoped) = {main_arg0, main_v0, main_v1_0, main_v1_1} by decide,
    SparseCore.bigSep_insert' (by decide), SparseCore.bigSep_insert' (by decide), SparseCore.bigSep_insert' (by decide), bigSep_singleton]

theorem held_S4 (d : Dev nD) (W : Valuation τ sig (Elt F)) :
    (held (SparseCore.T d) S4 W : sProp 𝕄)
      = iprop((xLoc d ↦{fullShare} W x') ∗ (tLoc d ↦{fullShare} W t')
          ∗ (aLoc d ↦{fullShare} W ((Proc.tc : Proc τ).devRef main_v1_0)) ∗ bLoc d ↦{fullShare} W ((Proc.tc : Proc τ).devRef main_v1_1)) := by
  unfold held S4
  rw [SparseCore.bigSep_insert' (by decide), SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (SparseCore.T d) S4 (V0 m d) := by
  rw [unscopedBufs_eq, held_S4]; rfl

/-- The exchange of the input's axes. -/
abbrev opT : HloOp τ sig (Elt F) :=
  StableHlo.unary main_arg0 main_v0 ((transpose S256x65536 [1, 0] · transposes_S65536x256_S256x65536_1_0) : (⟨S65536x256, .f32⟩ : BufTy).Contents (Elt F) → (⟨S256x65536, .f32⟩ : BufTy).Contents (Elt F))

theorem opT_x (d : Dev nD) : (opT (F := F)).result (V0 m d) x' = m (xLoc d) :=
  (opT (F := F)).result_of_not_mem (V0 m d) (b := x') (show x' ∉ ({t'} : Finset (DevRef τ sig)) by decide)

theorem opT_t (d : Dev nD) : (opT (F := F)).result (V0 m d) t' = xT m d :=
  (opT (F := F)).result_of_mem (V0 m d) (b := t') (Finset.mem_singleton_self _)

theorem opT_bufs : (opT (F := F)).bufs ⊆ S4 := show ({x'} ∪ {t'} : Finset (DevRef τ sig)) ⊆ S4 by decide

/-- What all the trips hold, by SparseCores and subcores. -/
theorem by_cores (Φ : Fin (grid0.bound 0) → Fin (grid0.bound 1) → Fin k0_t1_loop.trips → sProp 𝕄) :
    (bigSep Finset.univ fun t : Trip => Φ t.1 t.2.1 t.2.2)
      = bigSep Finset.univ fun c => bigSep Finset.univ fun s => bigSep Finset.univ fun j => Φ c s j :=
  (bigSep_univ_prod _).trans (bigSep_congr fun c _ => bigSep_univ_prod (fun p : Fin (grid0.bound 1) × Fin k0_t1_loop.trips => Φ c p.1 p.2))

theorem st_eq (d : Dev nD) :
    (bigSep Finset.univ fun c : Fin ((K (F := F)).nCore 0) => (P m).st 0 d c : sProp 𝕄)
      = bigSep Finset.univ fun c : Fin (grid0.bound 0) => bigSep Finset.univ fun s => bigSep Finset.univ fun j => Bef m d c s j := rfl

theorem dn_eq (d : Dev nD) :
    (bigSep Finset.univ fun c : Fin ((K (F := F)).nCore 0) => (P m).dn 0 d c : sProp 𝕄)
      = bigSep Finset.univ fun c : Fin (grid0.bound 0) => bigSep Finset.univ fun s => bigSep Finset.univ fun j => Aft m d c s j := rfl

abbrev FIN (d : Dev nD) : sProp 𝕄 := iprop((xLoc d ↦{fullShare} m (xLoc d)) ∗ ∃ g : Buf (Elt F) (aLoc d), ⌜Good m d g⌝ ∗ aLoc d ↦{fullShare} g)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S4) opT_bufs (V := V0 m d)) $$ [Hb Hheld]
  · isplitl [Hb] <;> iassumption
  iintro ⟨Hb, Hheld⟩
  rw [wp_ret]; imodintro
  ihave Hh := (Entails.of_eq (held_S4 (F := F) d _)) $$ Hheld
  icases Hh with ⟨Hx, Ht, Ha, Hbb⟩
  rw [opT_x]
  ihave Hrows := (deal m d _ (opT_t m d) _ _) $$ [Ht Ha Hbb]
  · isplitl [Ht]; · iexact Ht
    isplitl [Ha] <;> iassumption
  iapply ((K (F := F)).wp_run (D (F := F)) 𝒱 (EH := EH) (P := P m) κ d 0) $$ [Hst Hrows Hx Hb Hts]
  isplitr; · iexact Hctx
  isplitl [Hst]; · iexact Hst
  isplitl [Hrows]
  · rw [st_eq, ← by_cores (Bef m d)]
    iexact Hrows
  iintro ⟨Hst, Hdn⟩
  ihave Hrows := (Entails.of_eq ((dn_eq m d).trans (by_cores (Aft m d)).symm)) $$ Hdn
  ihave Ha := (gather m d) $$ Hrows
  imodintro
  isplitl [Hst]; · iexact Hst
  isplitr [Hb Hts]
  · isplitl [Hx] <;> iassumption
  isplitl [Hb] <;> iassumption

def fq (d : Dev nD) (s' : Phys nD τ sig (Elt F)) : Prop := s'.mem.mem (xLoc d) = m (xLoc d) ∧ Good m d (s'.mem.mem (aLoc d))

theorem hfin (d : Dev nD) (s' : Phys nD τ sig (Elt F)) : iprop(FIN m d ∗ SI s') ⊢ (⌜fq m d s'⌝ : sProp 𝕄) := by
  iintro ⟨⟨Hx, %g, %hg, Ha⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := aLoc d) (I := Finset.univ) (q := fullShare) (f := g)) $$ [HSI Ha]
  · isplitl [HSI] <;> iassumption
  icases H with %h2
  ipureintro
  have e : s'.mem.mem (aLoc d) = g := funext fun i => h2 i (Finset.mem_univ i)
  exact ⟨funext fun i => h1 i (Finset.mem_univ i), e ▸ hg⟩

/-- Every run ends with the input as it was, every row of the first result the row's keys in order, and every
    semaphore counter at zero. -/
theorem run_main [∀ e, Nonempty (Elt F e)] :
    θ_run (Cert.Kernel.defs (F := F)) (Cert.Kernel.threads (F := F)) ⟨m, fun _ => 0, ρ⟩
      (fun r => (∀ c : Dev nD, r.2.mem (xLoc c) = m (xLoc c) ∧ Good m c (r.2.mem (aLoc c))) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Launch

end
-- ==== Proof.Order.lean ====
/-
  The reference's rows: a host sort of the keys has the keys in order, and there is only one such row.
-/
module

public import proofs.«01_k».proof.Proof.Launch
public import proofs.«01_k».proof.Proof.Gen.Reference
public import Idealize.ShloMosaic.Lib.SortFacts

@[expose] public section

noncomputable section

namespace Cert.Order

open Idealize.ShloMosaic
open Cert.Cells Cert.Body Cert.Tile

/-! ## Rows in order -/

/-- Two rows in order with the same entries are the same. -/
theorem sorted_unique {n : ℕ} {K K' : ℕ → BitVec 32} (h : (Multiset.range n).map K = (Multiset.range n).map K')
    (hK : ∀ i j, i ≤ j → j < n → K i ≤ K j) (hK' : ∀ i j, i ≤ j → j < n → K' i ≤ K' j) : ∀ k < n, K k = K' k := by
  have hs : ∀ G : ℕ → BitVec 32, (∀ i j, i ≤ j → j < n → G i ≤ G j) → ((List.range n).map G).Pairwise (· ≤ ·) := by
    intro G hG
    refine List.pairwise_map.mpr ((List.pairwise_lt_range (n := n)).imp_of_mem fun ha hb hab => ?_)
    exact hG _ _ hab.le (List.mem_range.mp hb)
  have hp : ((List.range n).map K).Perm ((List.range n).map K') := Multiset.coe_eq_coe.mp h
  have e : (List.range n).map K = (List.range n).map K' :=
    hp.eq_of_pairwise (fun a b _ _ h1 h2 => BitVec.le_antisymm h1 h2) (hs K hK) (hs K' hK')
  intro k hk
  exact (List.map_inj_left.mp e) k (List.mem_range.mpr hk)

/-- A row's entries, counted by position. -/
theorem range_map {α : Type} (n : ℕ) (g : ℕ → α) : (Multiset.range n).map g = (Finset.univ : Finset (Fin n)).val.map fun i => g i.val := by
  rw [Fin.univ_val_map, List.ofFn_eq_map]
  refine Multiset.coe_eq_coe.mpr (List.Perm.of_eq ?_)
  refine List.ext_getElem (by simp) fun i h1 h2 => ?_
  simp

/-! ## The reference's keys -/

/-- Turning over all bits of a word with its top bit set, and setting the top bit of one without, is the key. -/
theorem enc_eq (u : BitVec 32) :
    Scalar.select (IntOp.cmpi .eq (IntOp.shrui .host u 31#32) 1#32) (~~~u) (IntOp.ori u 2147483648#32) = enc u := by
  have hs : IntOp.shrui .host u 31#32 = u >>> 31 := if_pos (by decide)
  have hv : (u >>> 31).toNat = u.toNat / 2147483648 := by rw [BitVec.toNat_ushiftRight, Nat.shiftRight_eq_div_pow]
  have hm : u.msb = decide (2147483648 ≤ u.toNat) := BitVec.msb_eq_decide u
  have hu : u.toNat < 4294967296 := u.isLt
  have hb : u.getLsbD 31 = u.msb := (BitVec.msb_eq_getLsbD_last u).symm
  have ha : u.sshiftRight' 31#32 = if u.msb then BitVec.allOnes 32 else 0#32 := by
    refine BitVec.eq_of_getLsbD_eq fun k hk => ?_
    show (u.sshiftRight 31).getLsbD k = _
    rw [BitVec.getLsbD_sshiftRight]
    have e : (if 31 + k < 32 then u.getLsbD (31 + k) else u.msb) = u.msb := by
      split
      · obtain rfl : k = 0 := by omega
        exact hb
      · rfl
    rw [e]
    cases hc : u.msb
    · simp [hk]
    · rw [if_pos rfl, BitVec.getLsbD_allOnes]
      simp [hk]
  unfold enc IntOp.ori
  rw [hs, ha]
  by_cases h : 2147483648 ≤ u.toNat
  · have hmt : u.msb = true := by rw [hm]; exact decide_eq_true h
    have e1 : u >>> 31 = 1#32 := BitVec.eq_of_toNat_eq (by rw [hv]; show _ = 1; omega)
    rw [e1, hmt]
    show ~~~u = u ^^^ (BitVec.allOnes 32 ||| 2147483648#32)
    rw [BitVec.allOnes_or, BitVec.xor_allOnes]
  · have hmt : u.msb = false := by rw [hm]; exact decide_eq_false h
    have e1 : u >>> 31 = 0#32 := BitVec.eq_of_toNat_eq (by rw [hv]; show _ = 0; omega)
    rw [e1, hmt]
    show u ||| 2147483648#32 = u ^^^ (0#32 ||| 2147483648#32)
    rw [BitVec.zero_or, show (2147483648#32 : BitVec 32) = BitVec.twoPow 32 31 by decide]
    refine BitVec.eq_of_getLsbD_eq fun k hk => ?_
    rw [BitVec.getLsbD_or, BitVec.getLsbD_xor, BitVec.getLsbD_twoPow]
    by_cases h31 : 31 = k
    · subst h31
      rw [hb, hmt]
      rfl
    · simp [h31]

/-! ## The reference's rows -/

open Cert.Reference Cert.Reference.Gen

variable {F : FTy → Type} [BitOps F]

/-- What the reference makes of its argument. -/
def result (x : S65536x256.Idx → Elt F .f32) : S256x65536.Idx → BitVec 32 :=
  Host.sort S256x65536 1 comparator_i32_d1 fun y => keyOf (F := F) (transpose S256x65536 [1, 0] x transposes_S65536x256_S256x65536_1_0 y)

theorem along_cell (r : Fin 256) (k : ℕ) (k' : Fin 65536) : Shape.Idx.along (s := S256x65536) (cell r k) 1 k' = cell r k'.val := by
  have h1 : k'.val < 65536 := k'.isLt
  refine (eq_cell r _ rfl).trans ?_
  congr 1

/-- The order in which the reference sorts a row. -/
abbrev before (f : Fin 65536 → BitVec 32) (a b : Fin 65536) : Bool := comparator_i32_d1 (f a) (f b) == 1#1

theorem before_iff (f : Fin 65536 → BitVec 32) (a b : Fin 65536) : before f a b = decide ((f a).toNat < (f b).toNat) := by
  show (BitVec.ofBool ((f a).ult (f b)) == 1#1) = decide ((f a).toNat < (f b).toNat)
  rw [show decide ((f a).toNat < (f b).toNat) = (f a).ult (f b) from rfl]
  cases (f a).ult (f b) <;> rfl

theorem result_sorted (x : S65536x256.Idx → Elt F .f32) (r : Fin 256) :
    SortedOf (fun k => transpose S256x65536 [1, 0] x transposes_S65536x256_S256x65536_1_0 (cell r k)) (fun k => result x (cell r k)) := by
  generalize hy : (fun y => keyOf (F := F) (transpose S256x65536 [1, 0] x transposes_S65536x256_S256x65536_1_0 y)) = y
  let f : Fin 65536 → BitVec 32 := fun k => y (cell r k.val)
  have e : ∀ k : ℕ, result x (cell r k) = f (sortedFrom (before f) ⟨k % 65536, Nat.mod_lt _ (by decide)⟩) := by
    intro k
    have h : result x (cell r k) = y ((cell r k).along (s := S256x65536) 1
        (sortedFrom (fun a b => comparator_i32_d1 (y ((cell r k).along (s := S256x65536) 1 a)) (y ((cell r k).along (s := S256x65536) 1 b)) == 1#1) (cell r k 1))) := by
      unfold result Host.sort
      rw [dif_pos (show 1 < S256x65536.rank by decide), hy]
      rfl
    rw [h]
    refine (congrArg y (along_cell r k _)).trans ?_
    have hB : (fun a b : Fin 65536 => comparator_i32_d1 (y ((cell r k).along (s := S256x65536) 1 a)) (y ((cell r k).along (s := S256x65536) 1 b)) == 1#1)
        = before f := by
      funext a b
      exact congrArg₂ (fun u v => comparator_i32_d1 (y u) (y v) == 1#1) (along_cell r k a) (along_cell r k b)
    exact congrArg (fun B : Fin 65536 → Fin 65536 → Bool => f (sortedFrom B ⟨k % 65536, Nat.mod_lt _ (by decide)⟩)) hB
  refine ⟨?_, fun i j hij hj => ?_⟩
  · rw [range_map, range_map]
    have e' : ∀ i : Fin 65536, result x (cell r i.val) = f (sortedFrom (before f) i) := by
      intro i
      rw [e]
      congr 2
      exact Fin.ext (Nat.mod_eq_of_lt i.isLt)
    simp only [e']
    have hb : Function.Bijective (sortedFrom (before f)) := ⟨sortedFrom_injective _, sortedFrom_surjective _⟩
    have hm := Multiset.map_univ_val_equiv (Equiv.ofBijective _ hb)
    refine Eq.trans ?_ (congrArg (Multiset.map f) hm |>.trans ?_)
    · rw [Multiset.map_map]
      rfl
    · refine Multiset.map_congr rfl fun k _ => ?_
      exact (congrFun hy (cell r k.val)).symm
  · show result x (cell r i) ≤ result x (cell r j)
    rw [e, e]
    rcases Nat.lt_or_eq_of_le hij with hlt | rfl
    · have hi : i % 65536 = i := Nat.mod_eq_of_lt (by omega)
      have hj' : j % 65536 = j := Nat.mod_eq_of_lt hj
      have h := sortedFrom_noInversion (before f) (before f)
        (fun a b h => by rw [before_iff, decide_eq_true_eq] at h; rw [before_iff, decide_eq_false_iff_not]; omega)
        (fun a b h => h)
        (fun a b c h1 h2 => by rw [before_iff, decide_eq_false_iff_not] at h1 h2 ⊢; omega)
        ⟨i % 65536, Nat.mod_lt _ (by decide)⟩ ⟨j % 65536, Nat.mod_lt _ (by decide)⟩ (by show i % 65536 < j % 65536; omega)
      rw [before_iff, decide_eq_false_iff_not] at h
      exact BitVec.le_def.mpr (by omega)
    · exact BitVec.le_refl _

/-- An array with the keys of every row in order is the reference's. -/
theorem eq_result (x : S65536x256.Idx → Elt F .f32) (g : S256x65536.Idx → BitVec 32)
    (hg : ∀ r : Fin 256, SortedOf (fun k => transpose S256x65536 [1, 0] x transposes_S65536x256_S256x65536_1_0 (cell r k)) (fun k => g (cell r k))) :
    g = result x := by
  funext y
  have h1 : (y 1).val < 65536 := (y 1).isLt
  have hr := result_sorted x (y 0)
  have h := sorted_unique ((hg (y 0)).1.trans hr.1.symm) (hg (y 0)).2 hr.2 (y 1).val h1
  rw [eq_cell (y 0) y rfl]
  exact h

/-- The reference's operations, composed, make it. -/
theorem composed (x : S65536x256.Idx → Elt F .f32) :
    Host.sort S256x65536 1 comparator_i32_d1
      (select (cmpi .eq (Host.shrui (bitcastToInt (transpose S256x65536 [1, 0] x transposes_S65536x256_S256x65536_1_0))
          (broadcastInDim S256x65536 ![] bcast_S_S256x65536 (constantI S_ 32 31#32))) (broadcastInDim S256x65536 ![] bcast_S_S256x65536 (constantI S_ 32 1#32)))
        (noti (bitcastToInt (transpose S256x65536 [1, 0] x transposes_S65536x256_S256x65536_1_0)))
        (ori (bitcastToInt (transpose S256x65536 [1, 0] x transposes_S65536x256_S256x65536_1_0))
          (broadcastInDim S256x65536 ![] bcast_S_S256x65536 (constantI S_ 32 2147483648#32)))) = result x := by
  unfold result
  congr 1
  funext y
  exact enc_eq (BitOps.toBits (F := F) (φ := .f32) (transpose S256x65536 [1, 0] x transposes_S65536x256_S256x65536_1_0 y))

end Cert.Order

end
-- ==== Proof.Dot.lean ====
/- The TensorCore call that multiplies the sorted values by the weights, with the host lines around it: what the two sums
   hold after every block of columns, what the two result arrays end at, and what the last host lines make of them. -/
module

public import proofs.«01_k».proof.Proof.Gen.TailIdeal.Frame
public import Idealize.ShloMosaic.Lib.Pipeline.Value
public import Idealize.ShloMosaic.Lib.StableHlo.Run
public import Idealize.ShloMosaic.Lib.Claim

@[expose] public section

noncomputable section

namespace Cert.Dot

open Cert.TailIdeal Cert.TailIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero₁ : (![0] : Fin 1 → Nat) = fun _ => 0 := funext fun a => by fin_cases a; rfl
theorem zero₂ : (![0, 0] : Fin 2 → Nat) = fun _ => 0 := funext fun a => by fin_cases a <;> rfl

section Body

variable (c : Dev nD) (i : grid0.Coords) (a1 : Memref sig .tc .vmem S256x4096 .i32) (h1 : a1.IsWhole) (a2 : Memref sig .tc .vmem S4096 .f32) (h2 : a2.IsWhole)
  (a3 : Memref sig .tc .vmem S1x256 .f32) (h3 : a3.IsWhole) (a4 : Memref sig .tc .vmem S1x256 .f32) (h4 : a4.IsWhole)
  (s : Vec F S256x4096 .i32) (k : Vec F S4096 .f32)

/-- The first block starts the sum of products from zero. -/
theorem num_first (hc : cond0_0 i) : out0_A_2 c i a1 h1 a2 h2 a3 h3 a4 h4 hc s k = k0_pay4 s k (k0_pay1 (F := F)) := by
  unfold out0_A_2
  rw [View.read_writes_eq_canon _ _ _ (cover0_A_2 c i a1 h1 a2 h2 a3 h3 a4 h4 hc s k)]
  unfold kernelRun0_A
  dsimp only
  try sl_unfold_words
  rw [View.canon_cons_unit_zero (S := S1x256) zero₂, View.readCov_unit_zero (S := S1x256) _ zero₂]
  simp only [View.readAt_eq_ld, h1.read_unread, h2.read_unread, View.ld_unit_zero (S := S256x4096) zero₂, View.ld_unit_zero (S := S4096) zero₁, shapeCast_self]

/-- The first block starts the sum of squares from zero. -/
theorem ss_first (hc : cond0_0 i) : out0_A_3 c i a1 h1 a2 h2 a3 h3 a4 h4 hc s k = k0_pay5 s (k0_pay2 (F := F)) := by
  unfold out0_A_3
  rw [View.read_writes_eq_canon _ _ _ (cover0_A_3 c i a1 h1 a2 h2 a3 h3 a4 h4 hc s k)]
  unfold kernelRun0_A
  dsimp only
  try sl_unfold_words
  rw [View.canon_cons_unit_zero (S := S1x256) zero₂, View.readCov_unit_zero (S := S1x256) _ zero₂]
  simp only [View.readAt_eq_ld, h1.read_unread, View.ld_unit_zero (S := S256x4096) zero₂, shapeCast_self]

/-- A later block adds to the sum of products. -/
theorem num_later (hc : ¬cond0_0 i) (n q : Vec F S1x256 .f32) : out0_B_2 c i a1 h1 a2 h2 a3 h3 a4 h4 hc s k n q = k0_pay4 s k n := by
  unfold out0_B_2
  rw [View.read_writes_eq_canon _ _ _ (cover0_B_2 c i a1 h1 a2 h2 a3 h3 a4 h4 hc s k n q)]
  unfold kernelRun0_B
  dsimp only
  try sl_unfold_words
  rw [View.canon_unit_zero zero₂]
  simp only [View.readAt_eq_ld, h1.read_unread, h2.read_unread, h3.read_unread, View.ld_unit_zero (S := S1x256) zero₂, View.ld_unit_zero (S := S256x4096) zero₂,
    View.ld_unit_zero (S := S4096) zero₁, shapeCast_self]

/-- A later block adds to the sum of squares. -/
theorem ss_later (hc : ¬cond0_0 i) (n q : Vec F S1x256 .f32) : out0_B_3 c i a1 h1 a2 h2 a3 h3 a4 h4 hc s k n q = k0_pay5 s q := by
  unfold out0_B_3
  rw [View.read_writes_eq_canon _ _ _ (cover0_B_3 c i a1 h1 a2 h2 a3 h3 a4 h4 hc s k n q)]
  unfold kernelRun0_B
  dsimp only
  try sl_unfold_words
  rw [View.canon_unit_zero zero₂]
  simp only [View.readAt_eq_ld, h1.read_unread, h4.read_unread, View.ld_unit_zero (S := S1x256) zero₂, View.ld_unit_zero (S := S256x4096) zero₂, shapeCast_self]

end Body

/-- Both sums after `n + 1` blocks. -/
def sums (c : Dev nD) : (n : ℕ) → n < cfg0.N → Vec F S1x256 .f32 × Vec F S1x256 .f32
  | 0, h => (k0_pay4 (iblk m c 0 ⟨0, h⟩) (iblk m c 1 ⟨0, h⟩) k0_pay1, k0_pay5 (iblk m c 0 ⟨0, h⟩) k0_pay2)
  | n + 1, h => (k0_pay4 (iblk m c 0 ⟨n + 1, h⟩) (iblk m c 1 ⟨n + 1, h⟩) (sums c n (Nat.lt_of_succ_lt h)).1,
      k0_pay5 (iblk m c 0 ⟨n + 1, h⟩) (sums c n (Nat.lt_of_succ_lt h)).2)

theorem outsAt_eq (c : Dev nD) : ∀ (n : ℕ) (h : n < cfg0.N), outsAt0 m c n h = sums m c n h
  | 0, h => by
    rw [outsAt0_A m c ⟨0, h⟩ rfl, num_first, ss_first]
    rfl
  | n + 1, h => by
    have hN : cfg0.N = 16 := N_0
    rw [outsAt0_B m c ⟨n + 1, h⟩ (by dsimp only; omega), num_later, ss_later]
    show (k0_pay4 _ _ (outsAt0 m c n _).1, k0_pay5 _ (outsAt0 m c n _).2) = _
    rw [outsAt_eq c n]
    rfl

/-- Both sums after the last block. -/
abbrev total (c : Dev nD) : Vec F S1x256 .f32 × Vec F S1x256 .f32 := sums m c 15 (by rw [show cfg0.N = 16 from N_0]; decide)

/-- The array of the sums of products ends at the last sums. -/
theorem final_num (c : Dev nD) : (dats m 0 c).arrAt 2 cfg0.N = (total m c).1 := by
  refine (dats m 0 c).arrAt_eq_of_cover 2 (total m c).1 (fun t hf => ?_) fun i => ⟨t0_15, (flush0_2 t0_15).mpr rfl, ?_⟩
  · have hN : cfg0.N = 16 := N_0
    have h15 : t.val = 15 := by have := (flush0_2 t).mp hf; have := t.isLt; omega
    obtain rfl : t = t0_15 := Fin.ext h15
    show (cfg0.win 2).cut (grid0.coords t0_15) ((dats m 0 c).after 2 t0_15) = _
    rw [after0_2, outsAt_eq]
    have hz : (fun a => win0_2.index t0_15 a * main_v1_0.ty.shape.size a) = fun _ => 0 := funext fun a => by fin_cases a <;> decide
    exact (Memref.read_access_unit_zero (Elt F) main_v1_0 hz (fun a => by rw [congrFun hz a]; simp) (total m c).1).symm
  · show i ∈ ((View.whole main_v1_0).slice (win0_2.rect t0_15)).set
    have hz : (fun a => win0_2.index t0_15 a * win0_2.size a) = fun _ => 0 := funext fun a => by fin_cases a <;> decide +kernel
    rw [View.set_slice_whole, Rect.mem_set_unit]
    intro a
    have hs : win0_2.xsize (grid0.coords t0_15) a = main_v1_0.ty.shape.size a := by revert a; decide +kernel
    have h : (i a).val < main_v1_0.ty.shape.size a := (i a).isLt
    show win0_2.index t0_15 a * win0_2.size a ≤ (i a).val ∧ (i a).val < win0_2.index t0_15 a * win0_2.size a + win0_2.xsize (grid0.coords t0_15) a
    rw [congrFun hz a, hs]
    omega

/-- The array of the sums of squares ends at the last sums. -/
theorem final_ss (c : Dev nD) : (dats m 0 c).arrAt 3 cfg0.N = (total m c).2 := by
  refine (dats m 0 c).arrAt_eq_of_cover 3 (total m c).2 (fun t hf => ?_) fun i => ⟨t0_15, (flush0_3 t0_15).mpr rfl, ?_⟩
  · have hN : cfg0.N = 16 := N_0
    have h15 : t.val = 15 := by have := (flush0_3 t).mp hf; have := t.isLt; omega
    obtain rfl : t = t0_15 := Fin.ext h15
    show (cfg0.win 3).cut (grid0.coords t0_15) ((dats m 0 c).after 3 t0_15) = _
    rw [after0_3, outsAt_eq]
    have hz : (fun a => win0_3.index t0_15 a * main_v1_1.ty.shape.size a) = fun _ => 0 := funext fun a => by fin_cases a <;> decide
    exact (Memref.read_access_unit_zero (Elt F) main_v1_1 hz (fun a => by rw [congrFun hz a]; simp) (total m c).2).symm
  · show i ∈ ((View.whole main_v1_1).slice (win0_3.rect t0_15)).set
    have hz : (fun a => win0_3.index t0_15 a * win0_3.size a) = fun _ => 0 := funext fun a => by fin_cases a <;> decide +kernel
    rw [View.set_slice_whole, Rect.mem_set_unit]
    intro a
    have hs : win0_3.xsize (grid0.coords t0_15) a = main_v1_1.ty.shape.size a := by revert a; decide +kernel
    have h : (i a).val < main_v1_1.ty.shape.size a := (i a).isLt
    show win0_3.index t0_15 a * win0_3.size a ≤ (i a).val ∧ (i a).val < win0_3.index t0_15 a * win0_3.size a + win0_3.xsize (grid0.coords t0_15) a
    rw [congrFun hz a, hs]
    omega

/-- The weights' norm, as the host takes it. -/
def norm (k : FVec F S65536 .f32) : FVec F S_ .f32 :=
  Host.sqrt (Host.reduceAdd (mulf k k) (constant S_ .f32 0x00000000#32) reducesTo_S65536_S_d0 h_S_)

/-- What the last host lines make of the weights' norm and the two sums. -/
def statistic (kn : FVec F S_ .f32) (num ss : FVec F S1x256 .f32) : FVec F S256 .f32 :=
  subf (broadcastInDim S256 ![] bcast_S_S256 (constant S_ .f32 0x3F800000#32))
    (Host.absf (Host.divf (shapeCast S256 num shapeCasts_S1x256_S256)
      (maximumf (mulf (broadcastInDim S256 ![] bcast_S_S256 kn) (Host.sqrt (shapeCast S256 ss shapeCasts_S1x256_S256)))
        (broadcastInDim S256 ![] bcast_S_S256 (constant S_ .f32 0x3727C5AC#32)))))

theorem norm_at_entry (c : Dev nD) : V0 m c (Proc.devRef .tc main_v0) = norm (m ((c : Thread nD τ).loc main_arg1)) := by
  show StableHlo.after hostOps0 (fun b => m (c, b)) (Proc.devRef .tc main_v0) = _
  simp only [hostOps0, StableHlo.TRef.binary, StableHlo.TRef.nullary, StableHlo.TRef.unary, StableHlo.TRef.toBuf, StableHlo.TRef.ofBuf, cast_eq]
  after_results_simp <;> rfl

theorem tail_eq (W : Valuation τ sig (Elt F)) :
    StableHlo.after hostOps1 W (Proc.devRef .tc main_v12) = statistic (W (Proc.devRef .tc main_v0)) (W (Proc.devRef .tc main_v1_0)) (W (Proc.devRef .tc main_v1_1)) := by
  simp only [hostOps1]
  after_results_simp <;> rfl

/-- The run: the result is the statistic of the weights' norm and the last sums; the arguments stay. -/
theorem run_main : θ_run defs (onTc (τ := τ) (main (F := F))) ⟨m, fun _ => 0, ρ⟩ fun r => ∀ c : Dev nD,
      r.2.mem ((c : Thread nD τ).loc main_v12) = statistic (norm (m ((c : Thread nD τ).loc main_arg1))) (total m c).1 (total m c).2
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, h.2 c⟩) (θ_run_and (Gen.run_main m ρ) (Gen.unchanged m ρ))
  replace h := h.1
  refine ((h c).2 main_v12 (by decide)).trans ?_
  show StableHlo.after hostOps1 (Pipeline.withArrays cfg0.spec c (V0 m c) fun w => (dats m 0 c).arrAt w cfg0.N) (Proc.devRef .tc main_v12) = _
  rw [tail_eq]
  have e0 : Pipeline.withArrays cfg0.spec c (V0 m c) (fun w => (dats m 0 c).arrAt w cfg0.N) (Proc.devRef .tc main_v0) = norm (m ((c : Thread nD τ).loc main_arg1)) :=
    (Pipeline.withArrays_of_ne cfg0.spec c (V0 m c) _ main_v0 (by decide)).trans (norm_at_entry m c)
  have e2 : Pipeline.withArrays cfg0.spec c (V0 m c) (fun w => (dats m 0 c).arrAt w cfg0.N) (Proc.devRef .tc main_v1_0) = (total m c).1 :=
    (Pipeline.withArrays_arr cfg0.spec (by decide) c (V0 m c) _ 2).trans (final_num m c)
  have e3 : Pipeline.withArrays cfg0.spec c (V0 m c) (fun w => (dats m 0 c).arrAt w cfg0.N) (Proc.devRef .tc main_v1_1) = (total m c).2 :=
    (Pipeline.withArrays_arr cfg0.spec (by decide) c (V0 m c) _ 3).trans (final_ss m c)
  rw [e0, e2, e3]

end Cert.Dot

end
-- ==== Proof.Statistic.lean ====
/- The statistic over the extended reals: the sums taken block by block (Proof/Dot.lean) are the sums over whole columns, so
   the host lines after them make of them what the plain formula makes of the decoded columns. -/
module

public import proofs.«01_k».proof.Proof.Dot
public import proofs.«01_k».proof.Proof.Gen.TailReferenceIdeal.Run
public import Idealize.ShloMosaic.Lib.IdealHost
public import Idealize.ShloMosaic.Lib.ValueLayout
public import Idealize.ShloMosaic.Lib.ValueLayoutCasts
public import Idealize.ShloMosaic.Lib.Pointwise.Reduce

@[expose] public section

noncomputable section

namespace Cert.Statistic

open Idealize.ShloMosaic hiding ix1 ix2
open Idealize.ShloMosaic.TcCoe Idealize.SL.Sem
open Idealize.ShloMosaic.ValueIdx (ix1 ix2)
open scoped BigOperators

/-- The sorted keys, a row for every column of the data, and the weights. -/
abbrev Keys : Type := IVec ⟨2, ![256, 65536]⟩ 32
abbrev Weights : Type := FVec Ideal ⟨1, ![65536]⟩ .f32

/-! ## A key's value -/

/-- A key with its order undone: a set top bit is cleared, otherwise every bit is flipped. -/
def word (w : BitVec 32) : BitVec 32 := if w >>> 31 = 1#32 then w ^^^ 2147483648#32 else ~~~w

/-- The number a key stands for. -/
def value (w : BitVec 32) : EReal := Ideal.ofBits .f32 (word w)

theorem top_cases (w : BitVec 32) : w >>> 31 = 0#32 ∨ w >>> 31 = 1#32 := by
  have h := w.isLt
  have e : (w >>> 31).toNat = w.toNat / 2 ^ 31 := by rw [BitVec.toNat_ushiftRight, Nat.shiftRight_eq_div_pow]
  have : w.toNat / 2 ^ 31 = 0 ∨ w.toNat / 2 ^ 31 = 1 := by omega
  exact this.imp (fun h => BitVec.eq_of_toNat_eq (e.trans h)) fun h => BitVec.eq_of_toNat_eq (e.trans h)

/-- The mask built from the top bit picks the same word as the choice on it. -/
theorem word_masked (w : BitVec 32) : w ^^^ (2147483648#32 ||| ((0#32 - w >>> 31) ^^^ 4294967295#32)) = word w := by
  unfold word
  rcases top_cases w with h | h <;> rw [h]
  · rw [if_neg (by decide), show 2147483648#32 ||| ((0#32 - 0#32) ^^^ 4294967295#32) = BitVec.allOnes 32 from by decide, BitVec.xor_allOnes]
  · rw [if_pos rfl]
    rfl

theorem kernel_value (s : IVec Cert.TailIdeal.S256x4096 32) (i : Cert.TailIdeal.S256x4096.Idx) :
    Cert.TailIdeal.Gen.k0_pay3 (F := Ideal) s i = value (s i) :=
  congrArg (Ideal.ofBits .f32) (word_masked (s i))

/-! ## The reference's columns -/

section Reference
open Cert.TailReferenceIdeal Cert.TailReferenceIdeal.Gen

/-- The reference's decoded keys, one column per column of the data. -/
def columns (s : Keys) : FVec Ideal S65536x256 .f32 :=
  transpose S65536x256 [1, 0] (bitcastToFloat (F := Ideal) .f32
    (select (cmpi .eq (Host.shrui (id s) (broadcastInDim S256x65536 ![] bcast_S_S256x65536 (constantI S_ 32 31#32)))
        (broadcastInDim S256x65536 ![] bcast_S_S256x65536 (constantI S_ 32 1#32)))
      (xori (id s) (broadcastInDim S256x65536 ![] bcast_S_S256x65536 (constantI S_ 32 2147483648#32))) (noti (id s)))) transposes_S256x65536_S65536x256_1_0

/-- The weights, repeated for every column. -/
def repeated (k : Weights) : FVec Ideal S65536x256 .f32 :=
  broadcastInDim S65536x256 ![0, 1] bcast_S65536x1_S65536x256_0_1 (shapeCast _ k shapeCasts_S65536_S65536x1)

/-- The sum down each column. -/
def down (v : FVec Ideal S65536x256 .f32) : FVec Ideal S256 .f32 :=
  Host.reduceAdd v (constant S_ .f32 0x00000000#32) reducesTo_S65536x256_S256_d0 h_S_

/-- The reference's result. -/
def plain (s : Keys) (k : Weights) : FVec Ideal S256 .f32 :=
  subf (broadcastInDim S256 ![] bcast_S_S256 (constant S_ .f32 0x3F800000#32))
    (Host.absf (Host.divf (down (mulf (repeated k) (columns s)))
      (maximumf (mulf (Host.sqrt (down (mulf (repeated k) (repeated k)))) (Host.sqrt (down (mulf (columns s) (columns s)))))
        (broadcastInDim S256 ![] bcast_S_S256 (constant S_ .f32 0x3727C5AC#32)))))

theorem columns_apply (s : Keys) (r : Fin 65536) (j : Fin 256) : columns s (ix2 r j) = value (s (ix2 j r)) := by
  refine (ValueIdx.transpose_ix2_apply _ _ r j).trans (congrArg (Ideal.ofBits .f32) ?_)
  unfold word
  rcases top_cases (s (ix2 j r)) with h | h
  · rw [h, if_neg (by decide)]
    show Scalar.select (BitVec.ofBool (s (ix2 j r) >>> 31 == 1#32)) _ _ = _
    rw [h]
    rfl
  · rw [h, if_pos rfl]
    show Scalar.select (BitVec.ofBool (s (ix2 j r) >>> 31 == 1#32)) _ _ = _
    rw [h]
    rfl

theorem repeated_apply (k : Weights) (r : Fin 65536) (j : Fin 256) : repeated k (ix2 r j) = k (ix1 r) := by
  refine (broadcastInDim_apply _ _ _ (ix2 r j) (ix2 r (0 : Fin 1)) fun a => ?_).trans (ValueIdx.shapeCast_a_a1_apply k _ r 0)
  match a with
  | ⟨0, _⟩ => rfl
  | ⟨1, _⟩ => rfl

theorem down_apply (v : FVec Ideal S65536x256 .f32) (j : Fin 256) : down v (ix1 j) = ∑ r : Fin 65536, (v (ix2 r j) : EReal) := by
  refine (Ideal.hostReduceAdd_r2_a0 reducesTo_S65536x256_S256_d0 v (Ideal.ofBits .f32 0x00000000#32) (ix1 j)).trans ?_
  rw [Ideal.ofBits_zero_f32, zero_add]
  refine Finset.sum_congr rfl fun r _ => congrArg v (funext fun a => ?_)
  match a with
  | ⟨0, _⟩ => rfl
  | ⟨1, _⟩ => rfl

end Reference

/-! ## The sums taken block by block -/

section Blocks
open Cert.TailIdeal Cert.TailIdeal.Gen

variable (m : (ℓ : Loc nD τ sig) → Buf (Elt Ideal) ℓ) (c : Dev nD)

/-- The sorted keys and the weights that the call is given. -/
abbrev keys : Keys := m ((c : Thread nD τ).loc main_arg0)
abbrev weights : Weights := m ((c : Thread nD τ).loc main_arg1)

theorem index_keys (t : Fin cfg0.N) : win0_0.index t 0 = 0 ∧ win0_0.index t 1 = t.val := by
  rcases fin_N0 t with rfl | rfl | rfl | rfl | rfl | rfl | rfl | rfl | rfl | rfl | rfl | rfl | rfl | rfl | rfl | rfl <;> decide

theorem index_weights (t : Fin cfg0.N) : win0_1.index t 0 = t.val := by
  rcases fin_N0 t with rfl | rfl | rfl | rfl | rfl | rfl | rfl | rfl | rfl | rfl | rfl | rfl | rfl | rfl | rfl | rfl <;> decide

/-- Column `l` of a block is column `4096 t + l` of the array. -/
theorem block_keys (t : Fin cfg0.N) (j : Fin 256) (l : Fin 4096) (r : Fin 65536) (hr : r.val = t.val * 4096 + l.val) :
    (iblk m c 0 t : Vec Ideal S256x4096 .i32) (ix2 j l) = keys m c (ix2 j r) := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * j.val = j.val; rw [(index_keys t).1]; omega
  | ⟨1, _⟩ => show win0_0.index t 1 * 4096 + 1 * l.val = r.val; rw [(index_keys t).2]; omega

theorem block_weights (t : Fin cfg0.N) (l : Fin 4096) (r : Fin 65536) (hr : r.val = t.val * 4096 + l.val) :
    (iblk m c 1 t : Vec Ideal S4096 .f32) (ix1 l) = weights m c (ix1 r) := by
  unfold iblk
  rw [View.read_apply]
  show V m c main_arg1 _ = m (c.tc.loc main_arg1) _
  rw [V_main_arg1]
  congr 1
  funext a
  apply Fin.ext
  match a with
  | ⟨0, _⟩ => show win0_1.index t 0 * 4096 + 1 * l.val = r.val; rw [index_weights t]; omega

/-- One block's sum along its columns. -/
theorem along (v : FVec Ideal S256x4096 .f32) (j : Fin 256) :
    shapeCast S1x256 (multiReduction .add [1] S256 v 0x00000000#32 reduces_S256x4096_S256 (.inl rfl) rfl) shapeCasts_S256_S1x256 (ix2 (0 : Fin 1) j)
      = ∑ l : Fin 4096, (v (ix2 j l) : EReal) := by
  refine (ValueIdx.shapeCast_a_1a_apply _ _ 0 j).trans ((Ideal.reduceAdd_r2_a1 reduces_S256x4096_S256 v (ix1 j)).trans ?_)
  refine Finset.sum_congr rfl fun l _ => congrArg v (funext fun a => ?_)
  match a with
  | ⟨0, _⟩ => rfl
  | ⟨1, _⟩ => rfl

theorem num_step (s : Vec Ideal S256x4096 .i32) (k : Vec Ideal S4096 .f32) (n : Vec Ideal S1x256 .f32) (j : Fin 256) :
    (k0_pay4 s k n (ix2 (0 : Fin 1) j) : EReal) = n (ix2 (0 : Fin 1) j) + ∑ l : Fin 4096, value (s (ix2 j l)) * (k (ix1 l) : EReal) := by
  unfold k0_pay4
  dsimp only
  rw [shapeCast_self]
  refine congrArg ((n (ix2 (0 : Fin 1) j) : EReal) + ·) ((along _ j).trans (Finset.sum_congr rfl fun l _ => ?_))
  refine congrArg₂ (fun a b : EReal => a * b) (kernel_value s _) ?_
  exact (ValueIdx.broadcastTo_1b_ab_apply _ _ j l).trans (ValueIdx.shapeCast_a_1a_apply k _ 0 l)

theorem ss_step (s : Vec Ideal S256x4096 .i32) (n : Vec Ideal S1x256 .f32) (j : Fin 256) :
    (k0_pay5 s n (ix2 (0 : Fin 1) j) : EReal) = n (ix2 (0 : Fin 1) j) + ∑ l : Fin 4096, value (s (ix2 j l)) * value (s (ix2 j l)) := by
  unfold k0_pay5
  dsimp only
  rw [shapeCast_self]
  refine congrArg ((n (ix2 (0 : Fin 1) j) : EReal) + ·) ((along _ j).trans (Finset.sum_congr rfl fun l _ => ?_))
  exact congrArg₂ (fun a b : EReal => a * b) (kernel_value s _) (kernel_value s _)

/-- A function of the columns, as a function of every number. -/
def padded (f : Fin 65536 → EReal) (r : ℕ) : EReal := if h : r < 65536 then f ⟨r, h⟩ else 0

theorem sum_padded (f : Fin 65536 → EReal) : ∑ r ∈ Finset.range 65536, padded f r = ∑ r : Fin 65536, f r := by
  rw [Finset.sum_range]
  exact Finset.sum_congr rfl fun r _ => dif_pos r.isLt

/-- Summing one block more. -/
theorem sum_block (f : Fin 65536 → EReal) (t : ℕ) (ht : t < 16) (g : Fin 4096 → EReal)
    (hg : ∀ (l : Fin 4096) (r : Fin 65536), r.val = t * 4096 + l.val → g l = f r) :
    ∑ r ∈ Finset.range ((t + 1) * 4096), padded f r = ∑ r ∈ Finset.range (t * 4096), padded f r + ∑ l : Fin 4096, g l := by
  rw [Nat.succ_mul, Finset.sum_range_add, Finset.sum_range (fun x => padded f (t * 4096 + x))]
  refine congrArg (_ + ·) (Finset.sum_congr rfl fun l _ => ?_)
  have h : t * 4096 + l.val < 65536 := by have := l.isLt; omega
  exact (dif_pos h).trans (hg l ⟨_, h⟩ rfl).symm

/-- What is summed down column `j`: the products, and the squares. -/
abbrev product (j : Fin 256) (r : Fin 65536) : EReal := value (keys m c (ix2 j r)) * (weights m c (ix1 r) : EReal)
abbrev square (j : Fin 256) (r : Fin 65536) : EReal := value (keys m c (ix2 j r)) * value (keys m c (ix2 j r))

theorem block_products (n : ℕ) (h : n < cfg0.N) (j : Fin 256) (l : Fin 4096) (r : Fin 65536) (hr : r.val = n * 4096 + l.val) :
    value ((iblk m c 0 ⟨n, h⟩ : Vec Ideal S256x4096 .i32) (ix2 j l)) * ((iblk m c 1 ⟨n, h⟩ : Vec Ideal S4096 .f32) (ix1 l) : EReal) = product m c j r :=
  congrArg₂ (fun a b : EReal => a * b) (congrArg value (block_keys m c ⟨n, h⟩ j l r hr)) (block_weights m c ⟨n, h⟩ l r hr)

theorem block_squares (n : ℕ) (h : n < cfg0.N) (j : Fin 256) (l : Fin 4096) (r : Fin 65536) (hr : r.val = n * 4096 + l.val) :
    value ((iblk m c 0 ⟨n, h⟩ : Vec Ideal S256x4096 .i32) (ix2 j l)) * value ((iblk m c 0 ⟨n, h⟩ : Vec Ideal S256x4096 .i32) (ix2 j l)) = square m c j r := by
  rw [block_keys m c ⟨n, h⟩ j l r hr]

/-- After `n + 1` blocks the two sums are those of the first `4096 (n + 1)` columns. -/
theorem sums_eq (j : Fin 256) : ∀ (n : ℕ) (h : n < cfg0.N),
    ((Dot.sums m c n h).1 (ix2 (0 : Fin 1) j) : EReal) = ∑ r ∈ Finset.range ((n + 1) * 4096), padded (product m c j) r
    ∧ ((Dot.sums m c n h).2 (ix2 (0 : Fin 1) j) : EReal) = ∑ r ∈ Finset.range ((n + 1) * 4096), padded (square m c j) r
  | 0, h => by
    rw [sum_block _ 0 (by decide) _ (block_products m c 0 h j), sum_block _ 0 (by decide) _ (block_squares m c 0 h j)]
    rw [Nat.zero_mul, Finset.range_zero, Finset.sum_empty, Finset.sum_empty, ← Ideal.ofBits_zero_f32]
    exact ⟨num_step _ _ _ j, ss_step _ _ j⟩
  | n + 1, h => by
    have hN : cfg0.N = 16 := N_0
    obtain ⟨e₁, e₂⟩ := sums_eq j n (Nat.lt_of_succ_lt h)
    rw [sum_block _ (n + 1) (by omega) _ (block_products m c (n + 1) h j), sum_block _ (n + 1) (by omega) _ (block_squares m c (n + 1) h j), ← e₁, ← e₂]
    exact ⟨num_step _ _ _ j, ss_step _ _ j⟩

theorem total_num : shapeCast S256 (Dot.total m c).1 shapeCasts_S1x256_S256 = down (mulf (repeated (weights m c)) (columns (keys m c))) := by
  funext i
  obtain ⟨j, rfl⟩ : ∃ j : Fin 256, i = ix1 j := ⟨i 0, ValueIdx.eq_ix1 i⟩
  refine (ValueIdx.shapeCast_1a_a_apply _ _ j).trans (((sums_eq m c j 15 _).1.trans (sum_padded _)).trans ((down_apply _ j).trans ?_).symm)
  refine Finset.sum_congr rfl fun r _ => ?_
  refine (congrArg₂ (fun a b : EReal => a * b) (repeated_apply _ r j) (columns_apply _ r j)).trans (mul_comm _ _)

theorem total_ss : shapeCast S256 (Dot.total m c).2 shapeCasts_S1x256_S256 = down (mulf (columns (keys m c)) (columns (keys m c))) := by
  funext i
  obtain ⟨j, rfl⟩ : ∃ j : Fin 256, i = ix1 j := ⟨i 0, ValueIdx.eq_ix1 i⟩
  refine (ValueIdx.shapeCast_1a_a_apply _ _ j).trans (((sums_eq m c j 15 _).2.trans (sum_padded _)).trans ((down_apply _ j).trans ?_).symm)
  refine Finset.sum_congr rfl fun r _ => ?_
  exact congrArg₂ (fun a b : EReal => a * b) (columns_apply _ r j) (columns_apply _ r j)

/-- The weights' norm is the norm of any of their repeated columns. -/
theorem norm_eq (k : Weights) : broadcastInDim S256 ![] bcast_S_S256 (Dot.norm (F := Ideal) k) = Host.sqrt (down (mulf (repeated k) (repeated k))) := by
  funext i
  obtain ⟨j, rfl⟩ : ∃ j : Fin 256, i = ix1 j := ⟨i 0, ValueIdx.eq_ix1 i⟩
  refine (ValueIdx.broadcastInDim_scalar_apply _ _ _).trans ?_
  refine congrArg (FloatOps.hostUnary (F := Ideal) (φ := .f32) .sqrt) ?_
  refine (Ideal.hostReduceAdd_r1_a0 reducesTo_S65536_S_d0 _ (Ideal.ofBits .f32 0x00000000#32) _).trans ?_
  rw [Ideal.ofBits_zero_f32, zero_add]
  refine ((down_apply _ j).trans ?_).symm
  refine Finset.sum_congr rfl fun r _ => ?_
  refine (congrArg₂ (fun a b : EReal => a * b) (repeated_apply k r j) (repeated_apply k r j)).trans ?_
  refine congrArg₂ (fun a b : EReal => a * b) (congrArg k (funext fun a => ?_)) (congrArg k (funext fun a => ?_)) <;>
    match a with | ⟨0, _⟩ => rfl

/-- The kernel's statistic is the reference's. -/
theorem statistic_eq : Dot.statistic (F := Ideal) (Dot.norm (weights m c)) (Dot.total m c).1 (Dot.total m c).2 = plain (keys m c) (weights m c) := by
  unfold Dot.statistic
  rw [norm_eq, total_num, total_ss]
  rfl

end Blocks

end Cert.Statistic

end
-- ==== Proof.lean ====
module

public import proofs.«01_k».proof.Defs
public import proofs.«01_k».proof.Proof.Gen.Kernel
public import proofs.«01_k».proof.Proof.Gen.Kernel.Skeleton
public import Idealize.ShloMosaic.Adequacy
public import Idealize.ShloMosaic.Init
public import proofs.«01_k».proof.Proof.Launch
public import proofs.«01_k».proof.Proof.Order
public import proofs.«01_k».proof.Proof.Statistic
public import proofs.«01_k».proof.Proof.Gen.Reference
public import proofs.«01_k».proof.Proof.Gen.Reference.Run
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailReferenceIdeal
public import proofs.«01_k».proof.Proof.Gen.TailReferenceIdeal.Run

@[expose] public section

noncomputable section

namespace Cert.Proof

open Idealize.ShloMosaic Idealize.SL.Sem

/-- The kernel runs, leaves its argument, and ends with every counter at zero. -/
theorem frame_kernel : Cert.quiescent_Kernel := fun m ρ _ =>
  (θ_run Cert.Kernel.defs _ _).mono (fun _ h => ⟨fun c => (h.1 c).1, h.2⟩) (Cert.Launch.run_main (F := Bits) m ρ)

/-- The reference runs and leaves its argument; it has no counter. -/
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- Both end with the sorted keys of `x`'s columns. -/
theorem bitexact : Cert.bitexact_Kernel_Reference := by
  intro m ρ m' ρ' _ hagree
  refine ⟨fun c => Cert.Order.result (F := Bits) (m ((c.tc : Thread Cert.Kernel.nD Cert.Kernel.τ).loc Cert.Kernel.main_arg0)), ?_, ?_⟩
  · exact (θ_run Cert.Kernel.defs _ _).mono
      (fun r h c => ⟨Cert.Order.eq_result (F := Bits) _ _ (h.1 c).2, (h.1 c).1⟩)
      (Cert.Launch.run_main (F := Bits) m ρ)
  · refine (θ_run Cert.Reference.defs _ _).mono (fun r h c => ⟨(h c).1.trans ?_, (h c).2⟩)
      (Cert.Reference.Value.run (F := Bits) m' ρ')
    rw [hagree c]
    exact Cert.Order.composed (F := Bits) _

/-- The call on the sorted keys, with the host lines around it, runs and leaves its arguments, at both readings. -/
theorem frame_tail : Cert.quiescent_Tail := fun m ρ _ => Cert.Tail.Gen.frame m ρ

theorem frame_tail_ideal : Cert.quiescent_TailIdeal := fun m ρ _ => Cert.TailIdeal.Gen.frame m ρ

/-- The plain statistic runs and leaves its arguments; it has no counter. -/
theorem frame_tail_reference : Cert.quiescent_TailReferenceIdeal := fun m ρ _ =>
  (θ_run Cert.TailReferenceIdeal.defs _ _).mono
    (fun r h => ⟨fun c => (h c).2, sem_eq_zero_of_no_sems (by decide) r.2⟩)
    (Cert.TailReferenceIdeal.Value.run (F := Ideal) m ρ)

/-- Both end with the plain statistic of the sorted keys and the weights. -/
theorem algebraic : Cert.algebraic_TailIdeal_TailReferenceIdeal := by
  intro m ρ m' ρ' _ hagree
  refine ⟨fun c => Cert.Statistic.plain (Cert.Statistic.keys m c) (Cert.Statistic.weights m c), ?_, ?_⟩
  · exact (θ_run Cert.TailIdeal.defs _ _).mono
      (fun r h c => ⟨(h c).1.trans (Cert.Statistic.statistic_eq m c), (h c).2⟩)
      (Cert.Dot.run_main (F := Ideal) m ρ)
  · refine (θ_run Cert.TailReferenceIdeal.defs _ _).mono (fun r h c => ⟨(h c).1.trans ?_, (h c).2⟩)
      (Cert.TailReferenceIdeal.Value.run (F := Ideal) m' ρ')
    rw [(hagree c).1, (hagree c).2]
    rfl

theorem claim : Cert.Claim :=
  ⟨Cert.Kernel.Gen.facts, Cert.Reference.Gen.facts, Cert.Tail.Gen.facts, Cert.TailIdeal.Gen.facts, Cert.TailReferenceIdeal.Gen.facts,
    frame_kernel, frame_reference, frame_tail, frame_tail_ideal, frame_tail_reference, bitexact, trivial, algebraic⟩

end Cert.Proof

end
